-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S256x128 Cert.KernelIdeal.S128x128

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S2x6144x2048 : Shape := ⟨3, ![2, 6144, 2048]⟩
abbrev S8192x2048 : Shape := ⟨2, ![8192, 2048]⟩
abbrev S8192x64 : Shape := ⟨2, ![8192, 64]⟩
abbrev S2x6144x8192 : Shape := ⟨3, ![2, 6144, 8192]⟩
abbrev S2x6144x64x32 : Shape := ⟨4, ![2, 6144, 64, 32]⟩
abbrev S_ : Shape := ⟨0, ![]⟩
abbrev S2x6144x64 : Shape := ⟨3, ![2, 6144, 64]⟩

class Facts : Prop where
  bitsLt_bf16_f32 : FTy.bits .bf16 < FTy.bits .f32
  shapeCasts_S2x6144x2048_S2x6144x64x32 : S2x6144x2048.ShapeCasts S2x6144x64x32
  reducesTo_S2x6144x64x32_S2x6144x64_d3 : S2x6144x64x32.ReducesTo [3] S2x6144x64
  h_S_ : 0 < S_.numel
  bcast_S_S2x6144x64 : S_.BroadcastsInDim S2x6144x64 (![] : Fin 0 → Fin S2x6144x64.rank)
  reducesTo_S2x6144x64_S_d0_1_2 : S2x6144x64.ReducesTo [0, 1, 2] S_
  natLt_8_32 : 8 < 32
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v12 : IVec S_ 1) (main_v13 : IVec S8192x64 32) (main_v15 : IVec S8192x64 1) (main_v16 : IVec S8192x64 32) : IVec S_ 1 :=
  let main_v17 : IVec S8192x64 1 := cmpi .sle main_v13 main_v16
  let main_v18 : IVec S8192x64 1 := andi main_v15 main_v17
  let main_c_5 : IVec S_ 1 := constantI S_ 1 1#1
  let main_v19 : IVec S_ 1 := (fun x v => Host.reduce IntOp.andi x v reducesTo_S8192x64_S_d0_1 h_S_) main_v18 main_c_5
  let main_v20 : IVec S_ 1 := andi main_v12 main_v19
  main_v20

def fn {F : FTy → Type} [FloatOps F] (main_arg0 : FVec F S2x6144x2048 .bf16) (main_arg1 : FVec F S8192x2048 .fp8e4m3) (main_arg2 : IVec S8192x64 8) (main_arg3 : FVec F S2x6144x8192 .bf16) : IVec S_ 1 :=
  let main_v0 : FVec F S2x6144x2048 .f32 := (extf .f32 · bitsLt_bf16_f32) main_arg0
  let main_v1 : FVec F S2x6144x2048 .f32 := Host.absf main_v0
  let main_v2 : FVec F S2x6144x64x32 .f32 := shapeCast S2x6144x64x32 main_v1 shapeCasts_S2x6144x2048_S2x6144x64x32
  let main_cst : FVec F S_ .f32 := constant S_ .f32 0xFF800000#32
  let main_v3 : FVec F S2x6144x64 .f32 := (fun x v => Host.reduce FloatOps.maximumf x v reducesTo_S2x6144x64x32_S2x6144x64_d3 h_S_) main_v2 main_cst
  let main_cst_0 : FVec F S_ .f32 := constant S_ .f32 0x00000000#32
  let main_v4 : FVec F S2x6144x64 .f32 := broadcastInDim S2x6144x64 ![] bcast_S_S2x6144x64 main_cst_0
  let main_v5 : IVec S2x6144x64 1 := cmpf .oeq main_v3 main_v4
  let main_cst_1 : FVec F S_ .f32 := constant S_ .f32 0x04E00000#32
  let main_v6 : FVec F S2x6144x64 .f32 := broadcastInDim S2x6144x64 ![] bcast_S_S2x6144x64 main_cst_1
  let main_v7 : IVec S2x6144x64 1 := cmpf .oge main_v3 main_v6
  let main_cst_2 : FVec F S_ .f32 := constant S_ .f32 0x7F7F0000#32
  let main_v8 : FVec F S2x6144x64 .f32 := broadcastInDim S2x6144x64 ![] bcast_S_S2x6144x64 main_cst_2
  let main_v9 : IVec S2x6144x64 1 := cmpf .ole main_v3 main_v8
  let main_v10 : IVec S2x6144x64 1 := andi main_v7 main_v9
  let main_v11 : IVec S2x6144x64 1 := ori main_v5 main_v10
  let main_c : IVec S_ 1 := constantI S_ 1 1#1
  let main_v12 : IVec S_ 1 := (fun x v => Host.reduce IntOp.andi x v reducesTo_S2x6144x64_S_d0_1_2 h_S_) main_v11 main_c
  let main_v13 : IVec S8192x64 32 := (extui 32 · natLt_8_32) main_arg2
  let main_c_3 : IVec S_ 32 := constantI S_ 32 1#32
  let main_v14 : IVec S8192x64 32 := broadcastInDim S8192x64 ![] bcast_S_S8192x64 main_c_3
  let main_v15 : IVec S8192x64 1 := cmpi .sge main_v13 main_v14
  let main_c_4 : IVec S_ 32 := constantI S_ 32 254#32
  let main_v16 : IVec S8192x64 32 := broadcastInDim S8192x64 ![] bcast_S_S8192x64 main_c_4
  fn_part1 (F := F) main_v12 main_v13 main_v15 main_v16
-- ==== Kernel.lean ====
abbrev S2x6144x2048 : Shape := ⟨3, ![2, 6144, 2048]⟩
abbrev S8192x2048 : Shape := ⟨2, ![8192, 2048]⟩
abbrev S8192x64 : Shape := ⟨2, ![8192, 64]⟩
abbrev S2x6144x8192 : Shape := ⟨3, ![2, 6144, 8192]⟩
abbrev S12288x2048 : Shape := ⟨2, ![12288, 2048]⟩
abbrev S12288x64 : Shape := ⟨2, ![12288, 64]⟩
abbrev S256x2048 : Shape := ⟨2, ![256, 2048]⟩
abbrev S256x64 : Shape := ⟨2, ![256, 64]⟩
abbrev S128x128 : Shape := ⟨2, ![128, 128]⟩
abbrev S256x128 : Shape := ⟨2, ![256, 128]⟩
abbrev S128x128x1 : Shape := ⟨3, ![128, 128, 1]⟩
abbrev S64x2048 : Shape := ⟨2, ![64, 2048]⟩
abbrev S12288x8192 : Shape := ⟨2, ![12288, 8192]⟩
abbrev S1024x2048 : Shape := ⟨2, ![1024, 2048]⟩
abbrev S1024x1024 : Shape := ⟨2, ![1024, 1024]⟩
abbrev S2x6144x64 : Shape := ⟨3, ![2, 6144, 64]⟩

abbrev nBuf : Space → Nat
  | .hbm => 14
  | .vmem => 22
  | .smem => 0
  | _ => 0

abbrev bufTy : (tb : Table) → Fin (tcTables nBuf tb) → BufTy
  | .hbm, ⟨0, _⟩ => ⟨S2x6144x2048, .bf16⟩
  | .hbm, ⟨1, _⟩ => ⟨S8192x2048, .fp8e4m3⟩
  | .hbm, ⟨2, _⟩ => ⟨S8192x64, .i8⟩
  | .hbm, ⟨3, _⟩ => ⟨S2x6144x8192, .bf16⟩
  | .hbm, ⟨4, _⟩ => ⟨S12288x2048, .bf16⟩
  | .hbm, ⟨5, _⟩ => ⟨S12288x2048, .fp8e4m3⟩
  | .hbm, ⟨6, _⟩ => ⟨S12288x64, .i8⟩
  | .hbm, ⟨7, _⟩ => ⟨S12288x2048, .bf16⟩
  | .hbm, ⟨8, _⟩ => ⟨S8192x2048, .bf16⟩
  | .hbm, ⟨9, _⟩ => ⟨S12288x8192, .bf16⟩
  | .hbm, ⟨10, _⟩ => ⟨S12288x8192, .bf16⟩
  | .hbm, ⟨11, _⟩ => ⟨S2x6144x8192, .bf16⟩
  | .hbm, ⟨12, _⟩ => ⟨S2x6144x2048, .fp8e4m3⟩
  | .hbm, ⟨13, _⟩ => ⟨S2x6144x64, .i8⟩
  | .local _ .vmem, ⟨0, _⟩ => ⟨S256x2048, .bf16⟩
  | .local _ .vmem, ⟨1, _⟩ => ⟨S256x2048, .bf16⟩
  | .local _ .vmem, ⟨2, _⟩ => ⟨S256x2048, .fp8e4m3⟩
  | .local _ .vmem, ⟨3, _⟩ => ⟨S256x2048, .fp8e4m3⟩
  | .local _ .vmem, ⟨4, _⟩ => ⟨S256x64, .i8⟩
  | .local _ .vmem, ⟨5, _⟩ => ⟨S256x64, .i8⟩
  | .local _ .vmem, ⟨6, _⟩ => ⟨S256x2048, .bf16⟩
  | .local _ .vmem, ⟨7, _⟩ => ⟨S256x2048, .bf16⟩
  | .local _ .vmem, ⟨8, _⟩ => ⟨S256x2048, .fp8e4m3⟩
  | .local _ .vmem, ⟨9, _⟩ => ⟨S256x2048, .fp8e4m3⟩
  | .local _ .vmem, ⟨10, _⟩ => ⟨S256x64, .i8⟩
  | .local _ .vmem, ⟨11, _⟩ => ⟨S256x64, .i8⟩
  | .local _ .vmem, ⟨12, _⟩ => ⟨S256x2048, .bf16⟩
  | .local _ .vmem, ⟨13, _⟩ => ⟨S256x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | _, _ => ⟨S2x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![12, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F]
-- ==== ReferenceIdeal.lean ====
abbrev S2x6144x2048 : Shape := ⟨3, ![2, 6144, 2048]⟩
abbrev S8192x2048 : Shape := ⟨2, ![8192, 2048]⟩
abbrev S8192x64 : Shape := ⟨2, ![8192, 64]⟩
abbrev S2x6144x8192 : Shape := ⟨3, ![2, 6144, 8192]⟩
abbrev S12288x2048 : Shape := ⟨2, ![12288, 2048]⟩
abbrev S12288x8192 : Shape := ⟨2, ![12288, 8192]⟩
abbrev S12288x64 : Shape := ⟨2, ![12288, 64]⟩
abbrev S12288x64x32 : Shape := ⟨3, ![12288, 64, 32]⟩
abbrev S12288x64x1 : Shape := ⟨3, ![12288, 64, 1]⟩
abbrev S8192x64x32 : Shape := ⟨3, ![8192, 64, 32]⟩
abbrev S64x12288x8192 : Shape := ⟨3, ![64, 12288, 8192]⟩
abbrev S64x12288 : Shape := ⟨2, ![64, 12288]⟩
abbrev S64x12288x1 : Shape := ⟨3, ![64, 12288, 1]⟩
abbrev S64x8192 : Shape := ⟨2, ![64, 8192]⟩
abbrev S64x1x8192 : Shape := ⟨3, ![64, 1, 8192]⟩
abbrev S2x6144x64 : Shape := ⟨3, ![2, 6144, 64]⟩

abbrev nBuf : Space → Nat
  | .hbm => 12
  | .vmem => 7
  | .smem => 0
  | _ => 0

abbrev bufTy : (tb : Table) → Fin (tcTables nBuf tb) → BufTy
  | .hbm, ⟨0, _⟩ => ⟨S2x6144x2048, .bf16⟩
  | .hbm, ⟨1, _⟩ => ⟨S8192x2048, .fp8e4m3⟩
  | .hbm, ⟨2, _⟩ => ⟨S8192x64, .i8⟩
  | .hbm, ⟨3, _⟩ => ⟨S2x6144x8192, .bf16⟩
  | .hbm, ⟨4, _⟩ => ⟨S12288x2048, .bf16⟩
  | .hbm, ⟨5, _⟩ => ⟨S12288x8192, .bf16⟩
  | .hbm, ⟨6, _⟩ => ⟨S12288x8192, .bf16⟩
  | .hbm, ⟨7, _⟩ => ⟨S12288x2048, .fp8e4m3⟩
  | .hbm, ⟨8, _⟩ => ⟨S12288x64, .i8⟩
  | .hbm, ⟨9, _⟩ => ⟨S2x6144x8192, .bf16⟩
  | .hbm, ⟨10, _⟩ => ⟨S2x6144x2048, .fp8e4m3⟩
  | .hbm, ⟨11, _⟩ => ⟨S2x6144x64, .i8⟩
  | .local _ .vmem, ⟨0, _⟩ => ⟨S12288x2048, .bf16⟩
  | .local _ .vmem, ⟨1, _⟩ => ⟨S8192x2048, .fp8e4m3⟩
  | .local _ .vmem, ⟨2, _⟩ => ⟨S8192x64, .i8⟩
  | .local _ .vmem, ⟨3, _⟩ => ⟨S12288x8192, .bf16⟩
  | .local _ .vmem, ⟨4, _⟩ => ⟨S12288x8192, .bf16⟩
  | .local _ .vmem, ⟨5, _⟩ => ⟨S12288x2048, .fp8e4m3⟩
  | .local _ .vmem, ⟨6, _⟩ => ⟨S12288x64, .i8⟩
  | _, _ => ⟨S2x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Chunk.lean ====
/-
  The quantizing region works on sixteen chunks of 128 columns, each with the same operations. This module writes
  those operations down once, as functions of one chunk, and shows that every generated piece is one of them.
-/
module

public import proofs.«01_k».proof.Proof.Gen.KernelIdeal.Frame

@[expose] public section

set_option maxRecDepth 16384

noncomputable section

namespace Cert.KernelIdeal.Gen

open Idealize.ShloMosaic Idealize.SL.Sem Cert.KernelIdeal

variable {F : FTy → Type} [FloatOps F]

/-- The lane number at every place of a chunk of words. -/
def laneC : IVec S128x128 32 := iota .tc S128x128 32 [1] iota_S128x128_d1_w32

/-- One round of the running maximum: every lane takes the larger of its value and its partner's, the partner being
    `dn` lanes up or down as bit `dn` of the lane number is clear or set. -/
def gstep (up dn : BitVec 32) (a : FVec F S256x128 .bf16) : FVec F S256x128 .bf16 :=
  maximumf a (interleaveRows S256x128
    (select (cmpi .eq (andi laneC (broadcast S128x128 dn)) (broadcast S128x128 0#32))
      (dynamicRotate 1 up none (rowsOfParity 0 S128x128 a bitcasts_S256x128_w16_S128x128_w32) rotates_S128x128_d1)
      (dynamicRotate 1 dn none (rowsOfParity 0 S128x128 a bitcasts_S256x128_w16_S128x128_w32) rotates_S128x128_d1))
    (select (cmpi .eq (andi laneC (broadcast S128x128 dn)) (broadcast S128x128 0#32))
      (dynamicRotate 1 up none (rowsOfParity 1 S128x128 a bitcasts_S256x128_w16_S128x128_w32) rotates_S128x128_d1)
      (dynamicRotate 1 dn none (rowsOfParity 1 S128x128 a bitcasts_S256x128_w16_S128x128_w32) rotates_S128x128_d1))
    bitcasts_S256x128_w16_S128x128_w32)

/-- The largest magnitude among the 32 lanes of each lane's group. -/
def gmaxC (x : FVec F S256x128 .bf16) : FVec F S256x128 .bf16 :=
  gstep 112#32 16#32 (gstep 120#32 8#32 (gstep 124#32 4#32 (gstep 126#32 2#32 (gstep 127#32 1#32
    (absf (shapeCast S256x128 x shapeCasts_S256x128_S256x128))))))

/-- The group maximum, with 256 in place of a maximum below the floor. -/
def amaxC (g : FVec F S256x128 .bf16) : FVec F S256x128 .f32 :=
  extf .f32 (select (cmpf .olt g (broadcast S256x128 (Scalar.ofBits .bf16 0x04E0#16)))
    (broadcast S256x128 (Scalar.ofBits .bf16 0x4380#16)) g) bitsLt_bf16_f32

/-- The value after one round of the exponent search. -/
def bval (thr inv : BitVec 32) (v : FVec F S256x128 .f32) : FVec F S256x128 .f32 :=
  select (cmpf .olt v (broadcast S256x128 (Scalar.ofBits .f32 thr))) v
    (mulf v (broadcast S256x128 (Scalar.ofBits .f32 inv)))

/-- The exponent after one round of the exponent search. -/
def bexp (thr k : BitVec 32) (v : FVec F S256x128 .f32) (e : IVec S256x128 32) : IVec S256x128 32 :=
  select (cmpf .olt v (broadcast S256x128 (Scalar.ofBits .f32 thr))) e (addi e (broadcast S256x128 k))

/-- The search's first value: a magnitude below one is scaled up by `2 ^ 127`. -/
def bval0 (v : FVec F S256x128 .f32) : FVec F S256x128 .f32 :=
  select (cmpf .olt v (broadcast S256x128 (Scalar.ofBits .f32 0x3F800000#32)))
    (mulf v (broadcast S256x128 (Scalar.ofBits .f32 0x7F000000#32))) v

/-- The search's first exponent. -/
def bexp0 (v : FVec F S256x128 .f32) : IVec S256x128 32 :=
  select (cmpf .olt v (broadcast S256x128 (Scalar.ofBits .f32 0x3F800000#32)))
    (broadcast S256x128 0#32) (broadcast S256x128 127#32)

def bval1 (v : FVec F S256x128 .f32) := bval 0x5F800000#32 0x1F800000#32 (bval0 v)
def bval2 (v : FVec F S256x128 .f32) := bval 0x4F800000#32 0x2F800000#32 (bval1 v)
def bval3 (v : FVec F S256x128 .f32) := bval 0x47800000#32 0x37800000#32 (bval2 v)
def bval4 (v : FVec F S256x128 .f32) := bval 0x43800000#32 0x3B800000#32 (bval3 v)
def bval5 (v : FVec F S256x128 .f32) := bval 0x41800000#32 0x3D800000#32 (bval4 v)
def bval6 (v : FVec F S256x128 .f32) := bval 0x40800000#32 0x3E800000#32 (bval5 v)
def bval7 (v : FVec F S256x128 .f32) := bval 0x40000000#32 0x3F000000#32 (bval6 v)
def bexp1 (v : FVec F S256x128 .f32) := bexp 0x5F800000#32 64#32 (bval0 v) (bexp0 v)
def bexp2 (v : FVec F S256x128 .f32) := bexp 0x4F800000#32 32#32 (bval1 v) (bexp1 v)
def bexp3 (v : FVec F S256x128 .f32) := bexp 0x47800000#32 16#32 (bval2 v) (bexp2 v)
def bexp4 (v : FVec F S256x128 .f32) := bexp 0x43800000#32 8#32 (bval3 v) (bexp3 v)
def bexp5 (v : FVec F S256x128 .f32) := bexp 0x41800000#32 4#32 (bval4 v) (bexp4 v)
def bexp6 (v : FVec F S256x128 .f32) := bexp 0x40800000#32 2#32 (bval5 v) (bexp5 v)
def bexp7 (v : FVec F S256x128 .f32) := bexp 0x40000000#32 1#32 (bval6 v) (bexp6 v)

/-- The fraction times 128. -/
def fracC (v : FVec F S256x128 .f32) : FVec F S256x128 .f32 :=
  mulf (subf (bval7 v) (broadcast S256x128 (Scalar.ofBits .f32 0x3F800000#32))) (broadcast S256x128 (Scalar.ofBits .f32 0x43000000#32))

/-- The sixteen bits of the magnitude, in a 32-bit word. -/
def bitsC (v : FVec F S256x128 .f32) : IVec S256x128 32 :=
  addi (shli (bexp7 v) (broadcast S256x128 7#32))
    (fptosi 32 (select (cmpf .olt (fracC v) (broadcast S256x128 (Scalar.ofBits .f32 0x43000000#32))) (fracC v)
      (broadcast S256x128 (Scalar.ofBits .f32 0x43000000#32))))

/-- The words of two fields: bits plus 32, shifted down by 7, kept to 9 bits, less 8, in each half. -/
def packC (b : IVec S256x128 32) : IVec S128x128 32 :=
  subi (andi (shrui (addi (bitcast S128x128 32 (trunci 16 b natLt_16_32) bitcasts_S256x128_w16_S128x128_w32)
    (broadcast S128x128 2097184#32)) (broadcast S128x128 7#32)) (broadcast S128x128 33489407#32))
    (broadcast S128x128 524296#32)

/-- A chunk's words of fields. -/
def fieldC (x : FVec F S256x128 .bf16) : IVec S128x128 32 := packC (bitsC (amaxC (gmaxC x)))

/-- The inverse scale at every place, from the words of fields. -/
def invC (f : IVec S128x128 32) : FVec F S256x128 .bf16 :=
  bitcastToFloat .bf16 (bitcast S256x128 16 (shli (subi (broadcast S128x128 16646398#32) f)
    (broadcast S128x128 7#32)) bitcasts_S128x128_w32_S256x128_w16)

/-- The scale at every place, from the words of fields. -/
def fwdC (f : IVec S128x128 32) : FVec F S256x128 .bf16 :=
  bitcastToFloat .bf16 (bitcast S256x128 16 (shli f
    (broadcast S128x128 7#32)) bitcasts_S128x128_w32_S256x128_w16)

/-- A chunk's codes. -/
def codesC (x : FVec F S256x128 .bf16) : FVec F S256x128 .fp8e4m3 :=
  truncf .fp8e4m3 (minimumf (broadcast S256x128 (Scalar.truncf .bf16 bitsLt_bf16_f32 (Scalar.ofBits .f32 0x43E00000#32)))
    (maximumf (broadcast S256x128 (Scalar.truncf .bf16 bitsLt_bf16_f32 (Scalar.ofBits .f32 0xC3E00000#32)))
      (mulf (shapeCast S256x128 x shapeCasts_S256x128_S256x128) (invC (fieldC x))))) bitsLt_fp8e4m3_bf16

/-- A chunk's codes times their scales. -/
def xdC (x : FVec F S256x128 .bf16) : FVec F S256x128 .bf16 :=
  mulf (extf .bf16 (codesC x) bitsLt_fp8e4m3_bf16) (fwdC (fieldC x))

/-- Lane number modulo 32, as the program computes it. -/
def lane32 : IVec S128x128 32 :=
  select (andi (xori (cmpi .slt (remsi laneC (broadcast S128x128 (Scalar.select (Scalar.cmpi .eq 32#32 0#32) 1#32 32#32)))
      (broadcast S128x128 0#32)) (broadcastTo S128x128 (broadcast S128x128
        (Scalar.cmpi .slt (Scalar.select (Scalar.cmpi .eq 32#32 0#32) 1#32 32#32) 0#32)) broadcasts_S128x128_S128x128))
      (cmpi .ne (remsi laneC (broadcast S128x128 (Scalar.select (Scalar.cmpi .eq 32#32 0#32) 1#32 32#32)))
        (broadcast S128x128 0#32)))
    (addi (remsi laneC (broadcast S128x128 (Scalar.select (Scalar.cmpi .eq 32#32 0#32) 1#32 32#32)))
      (broadcast S128x128 (Scalar.select (Scalar.cmpi .eq 32#32 0#32) 1#32 32#32)))
    (remsi laneC (broadcast S128x128 (Scalar.select (Scalar.cmpi .eq 32#32 0#32) 1#32 32#32)))

/-- The fields `f` at the lanes congruent to `c` modulo 32, and `p` elsewhere. -/
def pick (c : BitVec 32) (f p : IVec S128x128 32) : IVec S128x128 32 :=
  select (cmpi .eq lane32 (broadcast S128x128 c)) f p

/-- At lane `l` the field of chunk `l % 32`'s group `l / 32`. -/
def pickedC (x0 : Vec F S256x2048 .bf16) : IVec S128x128 32 :=
  pick 15#32 (fieldC (View.ld x0 r0_15))
    (pick 14#32 (fieldC (View.ld x0 r0_14))
    (pick 13#32 (fieldC (View.ld x0 r0_13))
    (pick 12#32 (fieldC (View.ld x0 r0_12))
    (pick 11#32 (fieldC (View.ld x0 r0_11))
    (pick 10#32 (fieldC (View.ld x0 r0_10))
    (pick 9#32 (fieldC (View.ld x0 r0_9))
    (pick 8#32 (fieldC (View.ld x0 r0_8))
    (pick 7#32 (fieldC (View.ld x0 r0_7))
    (pick 6#32 (fieldC (View.ld x0 r0_6))
    (pick 5#32 (fieldC (View.ld x0 r0_5))
    (pick 4#32 (fieldC (View.ld x0 r0_4))
    (pick 3#32 (fieldC (View.ld x0 r0_3))
    (pick 2#32 (fieldC (View.ld x0 r0_2))
    (pick 1#32 (fieldC (View.ld x0 r0_1))
    (pick 0#32 (fieldC (View.ld x0 r0_0)) k0_pay2)))))))))))))))

/-- The fields put in the order of their groups and stored as bytes. -/
def scalesC (p : IVec S128x128 32) : IVec S256x64 8 :=
  k0_pay1 (k0_pay529 laneC p (Scalar.select (Scalar.cmpi .eq 4#32 0#32) 1#32 4#32) (k0_pay525 laneC) (k0_pay526 laneC)
    (k0_pay527 laneC) k0_pay528)

/-- The region's codes are the chunks' codes, each at its place. -/
theorem out0_1_chunks (x0 : Vec F S256x2048 .bf16) : out0_1 x0 = View.canon [⟨r0_15, codesC (View.ld x0 r0_15)⟩,
    ⟨r0_14, codesC (View.ld x0 r0_14)⟩,
    ⟨r0_13, codesC (View.ld x0 r0_13)⟩,
    ⟨r0_12, codesC (View.ld x0 r0_12)⟩,
    ⟨r0_11, codesC (View.ld x0 r0_11)⟩,
    ⟨r0_10, codesC (View.ld x0 r0_10)⟩,
    ⟨r0_9, codesC (View.ld x0 r0_9)⟩,
    ⟨r0_8, codesC (View.ld x0 r0_8)⟩,
    ⟨r0_7, codesC (View.ld x0 r0_7)⟩,
    ⟨r0_6, codesC (View.ld x0 r0_6)⟩,
    ⟨r0_5, codesC (View.ld x0 r0_5)⟩,
    ⟨r0_4, codesC (View.ld x0 r0_4)⟩,
    ⟨r0_3, codesC (View.ld x0 r0_3)⟩,
    ⟨r0_2, codesC (View.ld x0 r0_2)⟩,
    ⟨r0_1, codesC (View.ld x0 r0_1)⟩,
    ⟨r0_0, codesC (View.ld x0 r0_0)⟩] := rfl

/-- The region's codes times scales are the chunks', each at its place. -/
theorem out0_3_chunks (x0 : Vec F S256x2048 .bf16) : out0_3 x0 = View.canon [⟨r0_15, xdC (View.ld x0 r0_15)⟩,
    ⟨r0_14, xdC (View.ld x0 r0_14)⟩,
    ⟨r0_13, xdC (View.ld x0 r0_13)⟩,
    ⟨r0_12, xdC (View.ld x0 r0_12)⟩,
    ⟨r0_11, xdC (View.ld x0 r0_11)⟩,
    ⟨r0_10, xdC (View.ld x0 r0_10)⟩,
    ⟨r0_9, xdC (View.ld x0 r0_9)⟩,
    ⟨r0_8, xdC (View.ld x0 r0_8)⟩,
    ⟨r0_7, xdC (View.ld x0 r0_7)⟩,
    ⟨r0_6, xdC (View.ld x0 r0_6)⟩,
    ⟨r0_5, xdC (View.ld x0 r0_5)⟩,
    ⟨r0_4, xdC (View.ld x0 r0_4)⟩,
    ⟨r0_3, xdC (View.ld x0 r0_3)⟩,
    ⟨r0_2, xdC (View.ld x0 r0_2)⟩,
    ⟨r0_1, xdC (View.ld x0 r0_1)⟩,
    ⟨r0_0, xdC (View.ld x0 r0_0)⟩] := rfl

/-- The region's scales are the ordered fields. -/
theorem out0_2_chunks (x0 : Vec F S256x2048 .bf16) : out0_2 x0 = View.canon [⟨r0_16, scalesC (pickedC x0)⟩] := rfl

end Cert.KernelIdeal.Gen

end
-- ==== Proof.Scale.lean ====
/-
  The scale of one group, as arithmetic on one magnitude: the kernel's exponent search and its packed field on one
  side, the reference's logarithm on the other. No array occurs here.
-/
module

public import proofs.«01_k».proof.Defs
public import Idealize.ShloMosaic.PureOps
public import Idealize.ShloMosaic.Lib.IdealHost

@[expose] public section

set_option maxRecDepth 16384

noncomputable section

namespace Cert.Mx

open Idealize.ShloMosaic

/-! ### Patterns that are powers of two -/

/-- The f32 pattern with exponent field `127 + k` and no fraction is `2 ^ k`. -/
theorem ofBits_f32_pow (b : BitVec 32) (k : ℤ) (h : b = BitVec.ofNat 32 ((127 + k).toNat * 2 ^ 23)) (h1 : -126 ≤ k)
    (h2 : k ≤ 127) : Ideal.ofBits .f32 b = ((((2 : ℝ) ^ k) : ℝ) : EReal) := by
  obtain ⟨n, rfl⟩ : ∃ n : ℕ, k = (n : ℤ) - 127 := ⟨(127 + k).toNat, by omega⟩
  have hn : (127 + ((n : ℤ) - 127)).toNat = n := by omega
  rw [hn] at h
  have hlt : n * 2 ^ 23 < 2 ^ 32 := by omega
  have e1 : (b.extractLsb' (8 + 23) 1 == 1#1) = false := by
    subst h
    rw [beq_eq_false_iff_ne]
    intro hc
    have := congrArg BitVec.toNat hc
    rw [BitVec.extractLsb'_toNat, BitVec.toNat_ofNat, Nat.mod_eq_of_lt hlt, Nat.shiftRight_eq_div_pow] at this
    simp at this; omega
  have e2 : (b.extractLsb' 23 8).toNat = n := by
    subst h
    rw [BitVec.extractLsb'_toNat, BitVec.toNat_ofNat, Nat.mod_eq_of_lt hlt, Nat.shiftRight_eq_div_pow]; omega
  have e3 : (b.extractLsb' 0 23).toNat = 0 := by
    subst h
    rw [BitVec.extractLsb'_toNat, BitVec.toNat_ofNat, Nat.mod_eq_of_lt hlt, Nat.shiftRight_eq_div_pow]; omega
  have p1 : ¬ (n = 2 ^ 8 - 1) := by omega
  have p2 : ¬ (n = 0) := by omega
  simp only [Ideal.ofBits, Ideal.ieee, e1, e2, e3, if_neg p1, if_neg p2, Nat.add_zero, Bool.false_eq_true, if_false, one_mul]
  refine congrArg _ ?_
  rw [show ((2 ^ 23 : ℕ) : ℝ) = (2 : ℝ) ^ (23 : ℤ) by norm_num, ← zpow_add₀ (by norm_num)]
  congr 1; push_cast; ring

/-- The bf16 pattern with exponent field `f` and no fraction is `2 ^ (f - 127)`. -/
theorem ofBits_bf16_pow (b : BitVec 16) (f : ℕ) (h : b.toNat = f * 128) (h1 : 1 ≤ f) (h2 : f ≤ 254) :
    Ideal.ofBits .bf16 b = ((((2 : ℝ) ^ ((f : ℤ) - 127)) : ℝ) : EReal) := by
  have e1 : (b.extractLsb' (8 + 7) 1 == 1#1) = false := by
    rw [beq_eq_false_iff_ne]
    intro hc
    have := congrArg BitVec.toNat hc
    rw [BitVec.extractLsb'_toNat, h, Nat.shiftRight_eq_div_pow] at this
    simp at this; omega
  have e2 : (b.extractLsb' 7 8).toNat = f := by
    rw [BitVec.extractLsb'_toNat, h, Nat.shiftRight_eq_div_pow]; omega
  have e3 : (b.extractLsb' 0 7).toNat = 0 := by
    rw [BitVec.extractLsb'_toNat, h, Nat.shiftRight_eq_div_pow]; omega
  have p1 : ¬ (f = 2 ^ 8 - 1) := by omega
  have p2 : ¬ (f = 0) := by omega
  simp only [Ideal.ofBits, Ideal.ieee, e1, e2, e3, if_neg p1, if_neg p2, Nat.add_zero, Bool.false_eq_true, if_false, one_mul]
  refine congrArg _ ?_
  rw [show ((2 ^ 7 : ℕ) : ℝ) = (2 : ℝ) ^ (7 : ℤ) by norm_num, ← zpow_add₀ (by norm_num)]
  congr 1; push_cast; ring

/-! ### The exponent search on one magnitude -/

/-- One round on the value. -/
def sval (thr inv : BitVec 32) (v : EReal) : EReal :=
  Scalar.select (Ideal.cmp .olt v (Ideal.ofBits .f32 thr)) v (v * Ideal.ofBits .f32 inv)

/-- One round on the exponent. -/
def sexp (thr k : BitVec 32) (v : EReal) (e : BitVec 32) : BitVec 32 :=
  Scalar.select (Ideal.cmp .olt v (Ideal.ofBits .f32 thr)) e (e + k)

def sval0 (v : EReal) : EReal :=
  Scalar.select (Ideal.cmp .olt v (Ideal.ofBits .f32 0x3F800000#32)) (v * Ideal.ofBits .f32 0x7F000000#32) v
def sexp0 (v : EReal) : BitVec 32 := Scalar.select (Ideal.cmp .olt v (Ideal.ofBits .f32 0x3F800000#32)) 0#32 127#32

def sval1 (v : EReal) := sval 0x5F800000#32 0x1F800000#32 (sval0 v)
def sval2 (v : EReal) := sval 0x4F800000#32 0x2F800000#32 (sval1 v)
def sval3 (v : EReal) := sval 0x47800000#32 0x37800000#32 (sval2 v)
def sval4 (v : EReal) := sval 0x43800000#32 0x3B800000#32 (sval3 v)
def sval5 (v : EReal) := sval 0x41800000#32 0x3D800000#32 (sval4 v)
def sval6 (v : EReal) := sval 0x40800000#32 0x3E800000#32 (sval5 v)
def sval7 (v : EReal) := sval 0x40000000#32 0x3F000000#32 (sval6 v)
def sexp1 (v : EReal) := sexp 0x5F800000#32 64#32 (sval0 v) (sexp0 v)
def sexp2 (v : EReal) := sexp 0x4F800000#32 32#32 (sval1 v) (sexp1 v)
def sexp3 (v : EReal) := sexp 0x47800000#32 16#32 (sval2 v) (sexp2 v)
def sexp4 (v : EReal) := sexp 0x43800000#32 8#32 (sval3 v) (sexp3 v)
def sexp5 (v : EReal) := sexp 0x41800000#32 4#32 (sval4 v) (sexp4 v)
def sexp6 (v : EReal) := sexp 0x40800000#32 2#32 (sval5 v) (sexp5 v)
def sexp7 (v : EReal) := sexp 0x40000000#32 1#32 (sval6 v) (sexp6 v)

/-- The fraction times 128. -/
def sfrac (v : EReal) : EReal := (sval7 v - Ideal.ofBits .f32 0x3F800000#32) * Ideal.ofBits .f32 0x43000000#32

/-- The bits of a magnitude. -/
def sbits (v : EReal) : BitVec 32 :=
  IntOp.shli .vector (sexp7 v) 7#32
    + Ideal.fptosi 32 (Scalar.select (Ideal.cmp .olt (sfrac v) (Ideal.ofBits .f32 0x43000000#32)) (sfrac v)
      (Ideal.ofBits .f32 0x43000000#32))

/-- One round halves the range the value lies in and keeps value times power. -/
theorem round_spec (k : ℕ) (hk : k ≤ 64) (thr inv kk : BitVec 32) (ht : thr = BitVec.ofNat 32 ((127 + (k : ℤ)).toNat * 2 ^ 23))
    (hi : inv = BitVec.ofNat 32 ((127 + -(k : ℤ)).toNat * 2 ^ 23)) (hkk : kk = BitVec.ofNat 32 k)
    (V : EReal) (B : BitVec 32) (a : ℝ) (N : ℕ)
    (h : ∃ (v : ℝ) (n : ℕ), V = (v : EReal) ∧ B = BitVec.ofNat 32 n ∧ 1 ≤ v ∧ v < 2 ^ (2 * k) ∧ v * 2 ^ n = a ∧ n ≤ N) :
    ∃ (v : ℝ) (n : ℕ), sval thr inv V = (v : EReal) ∧ sexp thr kk V B = BitVec.ofNat 32 n ∧ 1 ≤ v ∧ v < 2 ^ k
      ∧ v * 2 ^ n = a ∧ n ≤ N + k := by
  obtain ⟨v, n, rfl, rfl, h1, h2, h3, h4⟩ := h
  have et : Ideal.ofBits .f32 thr = (((2 : ℝ) ^ k : ℝ) : EReal) := by
    rw [ofBits_f32_pow thr k ht (by omega) (by omega), zpow_natCast]
  have ei : Ideal.ofBits .f32 inv = ((((2 : ℝ) ^ k)⁻¹ : ℝ) : EReal) := by
    rw [ofBits_f32_pow inv (-(k : ℤ)) hi (by omega) (by omega), zpow_neg, zpow_natCast]
  have hp : (0 : ℝ) < 2 ^ k := by positivity
  unfold sval sexp
  rw [et, ei]
  by_cases hc : (2 : ℝ) ^ k ≤ v
  · have hcmp : Ideal.cmp .olt (v : EReal) (((2 : ℝ) ^ k : ℝ) : EReal) = 0 := by
      simp only [Ideal.cmp, EReal.coe_lt_coe_iff, not_lt_of_ge hc, decide_false]; rfl
    rw [hcmp]
    refine ⟨v * ((2 : ℝ) ^ k)⁻¹, n + k, ?_, ?_, ?_, ?_, ?_, by omega⟩
    · simp [Scalar.select]
    · simp [Scalar.select, hkk, BitVec.ofNat_add]
    · rw [← div_eq_mul_inv, le_div_iff₀ hp]; linarith
    · rw [← div_eq_mul_inv, div_lt_iff₀ hp, ← pow_add, ← two_mul]; exact h2
    · rw [pow_add, ← h3]; field_simp
  · have hcmp : Ideal.cmp .olt (v : EReal) (((2 : ℝ) ^ k : ℝ) : EReal) = 1 := by
      simp only [Ideal.cmp, EReal.coe_lt_coe_iff, lt_of_not_ge hc, decide_true]; rfl
    rw [hcmp]
    exact ⟨v, n, by simp [Scalar.select], by simp [Scalar.select], h1, lt_of_not_ge hc, h3, by omega⟩

/-- The search ends at a value in `[1, 2)` and the exponent that gives the magnitude back. -/
theorem search_spec (a : ℝ) (h1 : (2 : ℝ) ^ (-126 : ℤ) ≤ a) (h2 : a < 2 ^ 128) :
    ∃ (v : ℝ) (n : ℕ), sval7 (a : EReal) = (v : EReal) ∧ sexp7 (a : EReal) = BitVec.ofNat 32 n ∧ 1 ≤ v ∧ v < 2
      ∧ v * 2 ^ n = a * 2 ^ 127 ∧ n ≤ 254 := by
  have e1 : Ideal.ofBits .f32 0x3F800000#32 = ((1 : ℝ) : EReal) := by
    rw [ofBits_f32_pow _ 0 (by decide) (by decide) (by decide)]; norm_num
  have e127 : Ideal.ofBits .f32 0x7F000000#32 = ((2 ^ 127 : ℝ) : EReal) := by
    rw [ofBits_f32_pow _ 127 (by decide) (by decide) (by decide)]; norm_cast
  have start : ∃ (v : ℝ) (n : ℕ), sval0 (a : EReal) = (v : EReal) ∧ sexp0 (a : EReal) = BitVec.ofNat 32 n ∧ 1 ≤ v
      ∧ v < 2 ^ (2 * 64) ∧ v * 2 ^ n = a * 2 ^ 127 ∧ n ≤ 127 := by
    unfold sval0 sexp0
    rw [e1, e127]
    by_cases hc : a < 1
    · have hcmp : Ideal.cmp .olt (a : EReal) ((1 : ℝ) : EReal) = 1 := by
        simp only [Ideal.cmp, EReal.coe_lt_coe_iff, hc, decide_true]; rfl
      rw [hcmp]
      refine ⟨a * 2 ^ 127, 0, by simp [Scalar.select], by simp [Scalar.select], ?_, ?_, by simp, by omega⟩
      · have : (2 : ℝ) ^ (-126 : ℤ) * 2 ^ 127 ≤ a * 2 ^ 127 := by gcongr
        refine le_trans ?_ this; norm_num
      · have : a * 2 ^ 127 < 1 * 2 ^ 127 := by gcongr
        refine this.trans_le ?_; norm_num
    · have hcmp : Ideal.cmp .olt (a : EReal) ((1 : ℝ) : EReal) = 0 := by
        simp only [Ideal.cmp, EReal.coe_lt_coe_iff, hc, decide_false]; rfl
      rw [hcmp]
      exact ⟨a, 127, by simp [Scalar.select], by simp [Scalar.select], le_of_not_gt hc, h2, by ring, le_refl _⟩
  have r1 := round_spec 64 (by omega) 0x5F800000#32 0x1F800000#32 64#32 (by decide) (by decide) (by decide) _ _ _ _ start
  have r2 := round_spec 32 (by omega) 0x4F800000#32 0x2F800000#32 32#32 (by decide) (by decide) (by decide) _ _ _ _ r1
  have r3 := round_spec 16 (by omega) 0x47800000#32 0x37800000#32 16#32 (by decide) (by decide) (by decide) _ _ _ _ r2
  have r4 := round_spec 8 (by omega) 0x43800000#32 0x3B800000#32 8#32 (by decide) (by decide) (by decide) _ _ _ _ r3
  have r5 := round_spec 4 (by omega) 0x41800000#32 0x3D800000#32 4#32 (by decide) (by decide) (by decide) _ _ _ _ r4
  have r6 := round_spec 2 (by omega) 0x40800000#32 0x3E800000#32 2#32 (by decide) (by decide) (by decide) _ _ _ _ r5
  have r7 := round_spec 1 (by omega) 0x40000000#32 0x3F000000#32 1#32 (by decide) (by decide) (by decide) _ _ _ _ r6
  obtain ⟨v, n, a1, a2, a3, a4, a5, a6⟩ := r7
  exact ⟨v, n, a1, a2, a3, by simpa using a4, a5, by omega⟩

/-- The bits of a magnitude are its exponent field over the first seven bits of its fraction. -/
theorem sbits_spec (a : ℝ) (h1 : (2 : ℝ) ^ (-126 : ℤ) ≤ a) (h2 : a < 2 ^ 128) :
    ∃ (v : ℝ) (n : ℕ), 1 ≤ v ∧ v < 2 ∧ v * 2 ^ n = a * 2 ^ 127 ∧ n ≤ 254 ∧ ⌊(v - 1) * 128⌋₊ < 128
      ∧ (sbits (a : EReal)).toNat = n * 128 + ⌊(v - 1) * 128⌋₊ := by
  obtain ⟨v, n, a1, a2, a3, a4, a5, a6⟩ := search_spec a h1 h2
  have e1 : Ideal.ofBits .f32 0x3F800000#32 = ((1 : ℝ) : EReal) := by
    rw [ofBits_f32_pow _ 0 (by decide) (by decide) (by decide)]; norm_num
  have e7 : Ideal.ofBits .f32 0x43000000#32 = ((128 : ℝ) : EReal) := by
    rw [ofBits_f32_pow _ 7 (by decide) (by decide) (by decide)]; norm_num
  have hpos : 0 ≤ (v - 1) * 128 := by nlinarith
  have hlt : ⌊(v - 1) * 128⌋₊ < 128 := by
    rw [Nat.floor_lt hpos]; push_cast; nlinarith
  refine ⟨v, n, a3, a4, a5, a6, hlt, ?_⟩
  have hf : Ideal.fptosi 32 (((v - 1) * 128 : ℝ) : EReal) = BitVec.ofNat 32 ⌊(v - 1) * 128⌋₊ := by
    have hfl : ⌊(v - 1) * 128⌋ = ((⌊(v - 1) * 128⌋₊ : ℕ) : ℤ) := (Int.natCast_floor_eq_floor hpos).symm
    show BitVec.ofInt 32 (max (-((2 ^ (32 - 1) : ℕ) : ℤ)) (min (((2 ^ (32 - 1) : ℕ) : ℤ) - 1)
      (if 0 ≤ (v - 1) * 128 then ⌊(v - 1) * 128⌋ else ⌈(v - 1) * 128⌉))) = _
    rw [if_pos hpos, hfl]
    have : max (-((2 ^ (32 - 1) : ℕ) : ℤ)) (min (((2 ^ (32 - 1) : ℕ) : ℤ) - 1) ((⌊(v - 1) * 128⌋₊ : ℕ) : ℤ))
        = ((⌊(v - 1) * 128⌋₊ : ℕ) : ℤ) := by
      norm_num; omega
    rw [this, BitVec.ofInt_natCast]
  have hv : sfrac (a : EReal) = (((v - 1) * 128 : ℝ) : EReal) := by
    unfold sfrac
    rw [a1, e1, e7, ← EReal.coe_sub, ← EReal.coe_mul]
  have hcmp : Ideal.cmp .olt (((v - 1) * 128 : ℝ) : EReal) ((128 : ℝ) : EReal) = 1 := by
    have : (v - 1) * 128 < 128 := by linarith
    simp only [Ideal.cmp, EReal.coe_lt_coe_iff, this, decide_true]; rfl
  have hsel : Scalar.select (1 : BitVec 1) (((v - 1) * 128 : ℝ) : EReal) ((128 : ℝ) : EReal) = (((v - 1) * 128 : ℝ) : EReal) := by
    simp [Scalar.select]
  unfold sbits
  rw [hv, a2, e7, hcmp, hsel, hf]
  have hs : IntOp.shli .vector (BitVec.ofNat 32 n) 7#32 = BitVec.ofNat 32 (n * 128) := by
    unfold IntOp.shli
    rw [if_pos (by decide)]
    apply BitVec.eq_of_toNat_eq
    simp [Nat.shiftLeft_eq]
  rw [hs, BitVec.toNat_add, BitVec.toNat_ofNat, BitVec.toNat_ofNat]
  omega

/-! ### The field and the reference's exponent -/

/-- A normal positive pattern's value, from its two fields. -/
theorem ieee_normal (e m : ℕ) {w : ℕ} (b : BitVec w) (E T : ℕ) (h1 : (b.extractLsb' (e + m) 1 == 1#1) = false)
    (h2 : (b.extractLsb' m e).toNat = E) (h3 : (b.extractLsb' 0 m).toNat = T) (h4 : E ≠ 2 ^ e - 1) (h5 : E ≠ 0) :
    Ideal.ieee e m b = ((((2 ^ m + T : ℕ) : ℝ) * (2 : ℝ) ^ ((E : ℤ) - (2 ^ (e - 1) - 1) - m) : ℝ) : EReal) := by
  simp only [Ideal.ieee, h1, h2, h3, if_neg h4, if_neg h5, Bool.false_eq_true, if_false, one_mul]

/-- The floor below which the kernel uses 256 as the magnitude. -/
theorem floor_val : Ideal.ofBits .bf16 0x04E0#16 = ((7 / 4 * (2 : ℝ) ^ (-118 : ℤ) : ℝ) : EReal) := by
  rw [Ideal.ofBits, ieee_normal _ _ _ 9 96 (by decide) (by decide) (by decide) (by decide) (by decide)]
  refine congrArg _ ?_
  norm_num

theorem unit_val : Ideal.ofBits .bf16 0x4380#16 = ((256 : ℝ) : EReal) := by
  rw [ofBits_bf16_pow _ 135 (by decide) (by decide) (by decide)]; norm_num

theorem floor_val_f32 : Ideal.ofBits .f32 0x04E00000#32 = ((7 / 4 * (2 : ℝ) ^ (-118 : ℤ) : ℝ) : EReal) := by
  rw [Ideal.ofBits, ieee_normal _ _ _ 9 6291456 (by decide) (by decide) (by decide) (by decide) (by decide)]
  refine congrArg _ ?_
  norm_num

theorem max_val_f32 : Ideal.ofBits .f32 0x7F7F0000#32 = ((255 / 128 * (2 : ℝ) ^ 127 : ℝ) : EReal) := by
  rw [Ideal.ofBits, ieee_normal _ _ _ 254 8323072 (by decide) (by decide) (by decide) (by decide) (by decide)]
  refine congrArg _ ?_
  norm_num

theorem val_448 : Ideal.ofBits .f32 0x43E00000#32 = ((448 : ℝ) : EReal) := by
  rw [Ideal.ofBits, ieee_normal _ _ _ 135 6291456 (by decide) (by decide) (by decide) (by decide) (by decide)]
  refine congrArg _ ?_
  norm_num

/-- The magnitudes at which the kernel's scale is the reference's: zero, or from the floor up to the largest bf16. -/
def InRange (g : EReal) : Prop :=
  g = 0 ∨ (Ideal.ofBits .f32 0x04E00000#32 ≤ g ∧ g ≤ Ideal.ofBits .f32 0x7F7F0000#32)

/-- The magnitude the search sees. -/
def samax (g : EReal) : EReal :=
  Scalar.select (Ideal.cmp .olt g (Ideal.ofBits .bf16 0x04E0#16)) (Ideal.ofBits .bf16 0x4380#16) g

/-- The kernel's field for a group of maximum `g`. -/
def sfield (g : EReal) : ℕ := ((sbits (samax g)).toNat + 32) / 128 - 8

/-- The reference's exponent for a group of maximum `g`. -/
def sref (g : EReal) : BitVec 32 :=
  Scalar.select (Ideal.cmp .oeq g (Ideal.ofBits .f32 0x00000000#32)) 0#32
    (Ideal.fptosi 32 (Ideal.liftRound Int.floor (Ideal.div (Ideal.log (Ideal.div g (Ideal.ofBits .f32 0x43E00000#32)))
      (Ideal.log (Ideal.ofBits .f32 0x40000000#32))) + Ideal.ofBits .f32 0x3F800000#32))

/-- The exponent the reference's logarithm gives, from bounds on the magnitude over 448. -/
theorem log_floor (a : ℝ) (z : ℤ) (h1 : (2 : ℝ) ^ z ≤ a / 448) (h2 : a / 448 < (2 : ℝ) ^ (z + 1)) (hz : -1000 ≤ z)
    (hz' : z ≤ 1000) :
    Ideal.fptosi 32 (Ideal.liftRound Int.floor (Ideal.div (Ideal.log (Ideal.div (a : EReal) (Ideal.ofBits .f32 0x43E00000#32)))
      (Ideal.log (Ideal.ofBits .f32 0x40000000#32))) + Ideal.ofBits .f32 0x3F800000#32) = BitVec.ofInt 32 (z + 1) := by
  have e1 : Ideal.ofBits .f32 0x3F800000#32 = ((1 : ℝ) : EReal) := by
    rw [ofBits_f32_pow _ 0 (by decide) (by decide) (by decide)]; norm_num
  have e2 : Ideal.ofBits .f32 0x40000000#32 = ((2 : ℝ) : EReal) := by
    rw [ofBits_f32_pow _ 1 (by decide) (by decide) (by decide)]; norm_num
  have hx : 0 < a / 448 := lt_of_lt_of_le (by positivity) h1
  have hl : (0 : ℝ) < Real.log 2 := Real.log_pos (by norm_num)
  have hfl : ⌊Real.log (a / 448) / Real.log 2⌋ = z := by
    rw [Int.floor_eq_iff]
    constructor
    · rw [le_div_iff₀ hl, ← Real.log_zpow]
      exact Real.log_le_log (by positivity) h1
    · rw [div_lt_iff₀ hl]
      have : ((z : ℝ) + 1) * Real.log 2 = Real.log ((2 : ℝ) ^ (z + 1)) := by rw [Real.log_zpow]; push_cast; ring
      rw [this]
      exact Real.log_lt_log hx h2
  rw [val_448, e1, e2]
  have d1 : Ideal.div (a : EReal) ((448 : ℝ) : EReal) = ((a / 448 : ℝ) : EReal) := by
    unfold Ideal.div
    rw [if_neg (by norm_num), ← EReal.coe_inv, ← EReal.coe_mul, div_eq_mul_inv]
  have d2 : Ideal.log ((a / 448 : ℝ) : EReal) = ((Real.log (a / 448) : ℝ) : EReal) := by
    show (if a / 448 ≤ 0 then ⊥ else ((Real.log (a / 448) : ℝ) : EReal)) = _
    rw [if_neg (not_le.mpr hx)]
  have d3 : Ideal.log ((2 : ℝ) : EReal) = ((Real.log 2 : ℝ) : EReal) := by
    show (if (2 : ℝ) ≤ 0 then ⊥ else ((Real.log 2 : ℝ) : EReal)) = _
    rw [if_neg (by norm_num)]
  have d4 : Ideal.div ((Real.log (a / 448) : ℝ) : EReal) ((Real.log 2 : ℝ) : EReal)
      = ((Real.log (a / 448) / Real.log 2 : ℝ) : EReal) := by
    unfold Ideal.div
    rw [if_neg (by exact_mod_cast hl.ne'), ← EReal.coe_inv, ← EReal.coe_mul]
    exact congrArg _ (div_eq_mul_inv _ _).symm
  have d5 : Ideal.liftRound Int.floor ((Real.log (a / 448) / Real.log 2 : ℝ) : EReal) = ((z : ℝ) : EReal) := by
    show (((⌊Real.log (a / 448) / Real.log 2⌋ : ℤ) : ℝ) : EReal) = _
    rw [hfl]
  rw [d1, d2, d3, d4, d5, ← EReal.coe_add]
  show BitVec.ofInt 32 (max (-((2 ^ (32 - 1) : ℕ) : ℤ)) (min (((2 ^ (32 - 1) : ℕ) : ℤ) - 1)
      (if 0 ≤ (z : ℝ) + 1 then ⌊(z : ℝ) + 1⌋ else ⌈(z : ℝ) + 1⌉))) = _
  have c1 : ⌊(z : ℝ) + 1⌋ = z + 1 := by rw [Int.floor_add_one, Int.floor_intCast]
  have c2 : ⌈(z : ℝ) + 1⌉ = z + 1 := by rw [Int.ceil_add_one, Int.ceil_intCast]
  rw [c1, c2, ite_self]
  congr 1
  norm_num
  omega

/-- A power of two strictly below a power of two has the smaller exponent. -/
theorem lt_of_pow (m n : ℕ) (h : (2 : ℝ) ^ m < 2 ^ n) : m < n := (pow_lt_pow_iff_right₀ (by norm_num)).mp h

/-- The magnitude over 448, by the search's value and exponent. -/
theorem over_448 (a v : ℝ) (n : ℕ) (h3 : v * 2 ^ n = a * 2 ^ 127) :
    a / 448 = v / (7 / 4) * (2 * (2 : ℝ) ^ ((n : ℤ) - 136)) := by
  have : a = v * 2 ^ n / 2 ^ 127 := by rw [h3]; field_simp
  rw [this, zpow_sub₀ (by norm_num), zpow_natCast]
  norm_num
  ring

/-- A magnitude from the floor up has an exponent field of at least 9, and of at least 10 below the carry. -/
theorem exp_ge (v : ℝ) (n : ℕ) (h : 7 / 4 * 2 ^ 9 ≤ v * 2 ^ n) (h2 : v < 2) : 9 ≤ n ∧ (v < 7 / 4 → 10 ≤ n) := by
  have hp : (0 : ℝ) < 2 ^ n := by positivity
  norm_num at h
  constructor
  · have : v * 2 ^ n < 2 * 2 ^ n := mul_lt_mul_of_pos_right h2 hp
    have : 8 < n := lt_of_pow _ _ (by norm_num; linarith)
    omega
  · intro hv
    have : v * 2 ^ n < 7 / 4 * 2 ^ n := mul_lt_mul_of_pos_right hv hp
    have : 9 < n := lt_of_pow _ _ (by norm_num; linarith)
    omega

/-- What both sides make of one group's maximum: the bits leave the packed arithmetic without a carry or a borrow, the
    field is between 2 and 247, and the reference's exponent is the field less 127. -/
theorem field_spec (g : EReal) (h : InRange g) :
    (sbits (samax g)).toNat + 32 < 32768 ∧ 1024 ≤ (sbits (samax g)).toNat + 32 ∧ 2 ≤ sfield g ∧ sfield g ≤ 247
      ∧ sref g = BitVec.ofInt 32 ((sfield g : ℤ) - 127) := by
  have e0 : Ideal.ofBits .f32 0x00000000#32 = ((0 : ℝ) : EReal) := by simp [Ideal.ofBits, Ideal.ieee]
  rcases h with rfl | ⟨hlo, hhi⟩
  · have hs : samax 0 = ((256 : ℝ) : EReal) := by
      unfold samax
      rw [floor_val, unit_val]
      have hcmp : Ideal.cmp .olt (0 : EReal) ((7 / 4 * (2 : ℝ) ^ (-118 : ℤ) : ℝ) : EReal) = 1 := by
        have : (0 : EReal) < ((7 / 4 * (2 : ℝ) ^ (-118 : ℤ) : ℝ) : EReal) := by
          rw [EReal.coe_pos]; positivity
        simp only [Ideal.cmp, this, decide_true]; rfl
      rw [hcmp]; rfl
    obtain ⟨v, n, h1, h2, h3, h4, h5, h6⟩ := sbits_spec 256 (by norm_num) (by norm_num)
    have h256 : (256 : ℝ) * 2 ^ 127 = 2 ^ 135 := by norm_num
    rw [h256] at h3
    have hp : (0 : ℝ) < 2 ^ n := by positivity
    have n1 : n < 136 := lt_of_pow _ _ (by nlinarith)
    have n2 : 135 < n + 1 := lt_of_pow _ _ (by rw [← h3, pow_succ, mul_comm ((2 : ℝ) ^ n)]; exact mul_lt_mul_of_pos_right h2 hp)
    have hn : n = 135 := by omega
    subst hn
    have hv : v = 1 := by
      have : (2 : ℝ) ^ 135 ≠ 0 := by positivity
      exact mul_right_cancel₀ this (by rw [h3, one_mul])
    subst hv
    have hb : (sbits (samax 0)).toNat = 17280 := by rw [hs, h6]; norm_num
    have hf : sfield 0 = 127 := by unfold sfield; rw [hb]
    refine ⟨by omega, by omega, by omega, by omega, ?_⟩
    rw [hf]
    unfold sref
    rw [e0, show Ideal.cmp .oeq (0 : EReal) ((0 : ℝ) : EReal) = 1 by simp [Ideal.cmp]]
    rfl
  · rw [floor_val_f32] at hlo
    rw [max_val_f32] at hhi
    have hpf : (0 : ℝ) < 7 / 4 * (2 : ℝ) ^ (-118 : ℤ) := by positivity
    obtain ⟨a, rfl⟩ : ∃ a : ℝ, g = (a : EReal) := by
      induction g using EReal.rec with
      | bot => exact absurd (le_bot_iff.mp hlo) (EReal.coe_ne_bot _)
      | top => exact absurd (top_le_iff.mp hhi) (EReal.coe_ne_top _)
      | coe r => exact ⟨r, rfl⟩
    rw [EReal.coe_le_coe_iff] at hlo hhi
    have ha : 0 < a := lt_of_lt_of_le hpf hlo
    have hs : samax (a : EReal) = (a : EReal) := by
      unfold samax
      rw [floor_val]
      have hcmp : Ideal.cmp .olt (a : EReal) ((7 / 4 * (2 : ℝ) ^ (-118 : ℤ) : ℝ) : EReal) = 0 := by
        simp only [Ideal.cmp, EReal.coe_lt_coe_iff, not_lt.mpr hlo, decide_false]; rfl
      rw [hcmp]; simp [Scalar.select]
    obtain ⟨v, n, h1, h2, h3, h4, h5, h6⟩ := sbits_spec a (le_trans (by norm_num) hlo)
      (lt_of_le_of_lt hhi (by norm_num))
    have hp : (0 : ℝ) < 2 ^ n := by positivity
    have hfl : (7 / 4 : ℝ) * 2 ^ 9 ≤ v * 2 ^ n := by
      rw [h3]
      have : 7 / 4 * (2 : ℝ) ^ (-118 : ℤ) * 2 ^ 127 ≤ a * 2 ^ 127 := by gcongr
      refine le_trans (le_of_eq ?_) this
      norm_num
    have hx := over_448 a v n h3
    obtain ⟨n9, n10'⟩ := exp_ge v n hfl h2
    have href : sref (a : EReal) = Ideal.fptosi 32 (Ideal.liftRound Int.floor (Ideal.div (Ideal.log
        (Ideal.div (a : EReal) (Ideal.ofBits .f32 0x43E00000#32)))
        (Ideal.log (Ideal.ofBits .f32 0x40000000#32))) + Ideal.ofBits .f32 0x3F800000#32) := by
      unfold sref
      rw [e0]
      have hcmp : Ideal.cmp .oeq (a : EReal) ((0 : ℝ) : EReal) = 0 := by
        simp only [Ideal.cmp, EReal.coe_eq_coe_iff, ha.ne', decide_false]; rfl
      rw [hcmp]; simp [Scalar.select]
    have hpos : 0 ≤ (v - 1) * 128 := by nlinarith
    have hz : (0 : ℝ) < (2 : ℝ) ^ ((n : ℤ) - 136) := by positivity
    have hz1 : (2 : ℝ) ^ ((n : ℤ) - 135) = 2 * (2 : ℝ) ^ ((n : ℤ) - 136) := by
      rw [show ((n : ℤ) - 135) = ((n : ℤ) - 136) + 1 by ring, zpow_add_one₀ (by norm_num)]; ring
    generalize hz2 : (2 : ℝ) ^ ((n : ℤ) - 136) = q at hx hz hz1
    clear hlo hhi hpf h3 hfl hp ha e0
    by_cases hv : 7 / 4 ≤ v
    · have hm : 96 ≤ ⌊(v - 1) * 128⌋₊ := by
        rw [Nat.le_floor_iff hpos]; push_cast; linarith
      have hf : sfield (a : EReal) = n - 7 := by unfold sfield; rw [hs, h6]; omega
      have l1 : 1 ≤ v / (7 / 4) := by rw [le_div_iff₀ (by norm_num)]; linarith
      have l2 : v / (7 / 4) < 2 := by rw [div_lt_iff₀ (by norm_num)]; linarith
      rw [hf, hs, h6, href, log_floor a ((n : ℤ) - 135) (by rw [hx, hz1]; nlinarith)
        (by rw [hx, zpow_add_one₀ (by norm_num), hz1]; nlinarith) (by omega) (by omega)]
      refine ⟨by omega, by omega, by omega, by omega, ?_⟩
      exact congrArg (BitVec.ofInt 32) (by omega)
    · have hv' : v < 7 / 4 := lt_of_not_ge hv
      have hm : ⌊(v - 1) * 128⌋₊ < 96 := by
        rw [Nat.floor_lt hpos]; push_cast; linarith
      have n10 := n10' hv'
      have hf : sfield (a : EReal) = n - 8 := by unfold sfield; rw [hs, h6]; omega
      have l1 : 1 / 2 ≤ v / (7 / 4) := by rw [le_div_iff₀ (by norm_num)]; linarith
      have l2 : v / (7 / 4) < 1 := by rw [div_lt_iff₀ (by norm_num)]; linarith
      rw [hf, hs, h6, href, log_floor a ((n : ℤ) - 136) (by rw [hx, hz2]; nlinarith)
        (by rw [hx, show (n : ℤ) - 136 + 1 = (n : ℤ) - 135 by ring, hz1]; nlinarith) (by omega) (by omega)]
      refine ⟨by omega, by omega, by omega, by omega, ?_⟩
      exact congrArg (BitVec.ofInt 32) (by omega)

end Cert.Mx

end
-- ==== Proof.Words.lean ====
/-
  The packed words: two 16-bit fields in one 32-bit word, worked on together. Every step is shown on numbers.
-/
module

public import proofs.«01_k».proof.Proof.Chunk
public import proofs.«01_k».proof.Proof.Scale
public import Idealize.ShloMosaic.Lib.BitcastPair
public import Idealize.ShloMosaic.Lib.ValueIdx

@[expose] public section

set_option maxRecDepth 16384

noncomputable section

namespace Cert.Mx

open Idealize.ShloMosaic Cert.KernelIdeal Cert.KernelIdeal.Gen

/-- The word of fields cut out of the word of bits. -/
def packWord (w : BitVec 32) : BitVec 32 :=
  IntOp.shrui .vector (w + 2097184#32) 7#32 &&& 33489407#32

/-- The low half and the high half of a word masked to nine bits each. -/
theorem mask_toNat (w : BitVec 32) :
    (w &&& 33489407#32).toNat = w.toNat % 512 + 65536 * (w.toNat / 65536 % 512) := by
  have hw := w.isLt
  have hl : (w.toNat &&& 33489407) % 65536 = w.toNat % 512 := by
    have h1 : (w.toNat &&& 33489407) % 2 ^ 16 = (w.toNat % 2 ^ 16) &&& (33489407 % 2 ^ 16) := Nat.and_mod_two_pow
    have h2 : (w.toNat % 2 ^ 16) &&& (2 ^ 9 - 1) = w.toNat % 2 ^ 16 % 2 ^ 9 := Nat.and_two_pow_sub_one_eq_mod _ _
    norm_num at h1 h2
    rw [h1, h2]
  have hh : (w.toNat &&& 33489407) / 65536 = w.toNat / 65536 % 512 := by
    have h1 : (w.toNat &&& 33489407) / 2 ^ 16 = (w.toNat / 2 ^ 16) &&& (33489407 / 2 ^ 16) := Nat.and_div_two_pow
    have h2 : (w.toNat / 2 ^ 16) &&& (2 ^ 9 - 1) = w.toNat / 2 ^ 16 % 2 ^ 9 := Nat.and_two_pow_sub_one_eq_mod _ _
    norm_num at h1 h2
    rw [h1, h2]
  rw [BitVec.toNat_and]
  show w.toNat &&& 33489407 = _
  omega

/-- The word of fields from two halves of bits: no carry and no borrow passes between them. -/
theorem field_word (hi lo : BitVec 16) (h1 : lo.toNat + 32 < 32768) (h2 : hi.toNat + 32 < 32768)
    (h3 : 1024 ≤ lo.toNat + 32) (h4 : 1024 ≤ hi.toNat + 32) :
    (packWord (hi ++ lo) - 524296#32).toNat
      = ((lo.toNat + 32) / 128 - 8) + 65536 * ((hi.toNat + 32) / 128 - 8) := by
  have hw : (hi ++ lo : BitVec 32).toNat = hi.toNat * 65536 + lo.toNat := by
    have e := BitVec.toNat_append hi lo
    rw [Nat.shiftLeft_eq, ← Nat.shiftLeft_eq, ← Nat.shiftLeft_add_eq_or_of_lt lo.isLt, Nat.shiftLeft_eq] at e
    exact e
  have hs : (IntOp.shrui .vector ((hi ++ lo : BitVec 32) + 2097184#32) 7#32).toNat
      = (hi.toNat * 65536 + lo.toNat + 2097184) / 128 := by
    unfold IntOp.shrui
    rw [if_pos (by decide)]
    show (((hi ++ lo : BitVec 32) + 2097184#32) >>> 7).toNat = _
    rw [BitVec.toNat_ushiftRight, BitVec.toNat_add, hw, Nat.shiftRight_eq_div_pow]
    simp
    omega
  rw [BitVec.toNat_sub]
  unfold packWord
  rw [mask_toNat, hs]
  simp
  omega

/-- A half of a word. -/
theorem half_toNat (w : BitVec 32) (p : ℕ) (hp : p < 2) :
    (w.extractLsb' (16 * p) 16).toNat = w.toNat / 65536 ^ p % 65536 := by
  rw [BitVec.extractLsb'_toNat, Nat.shiftRight_eq_div_pow]
  congr 2
  rw [pow_mul]
  norm_num

/-- The words of the scales: each half is its field over seven empty bits. -/
theorem fwd_word (w : BitVec 32) (a b : ℕ) (hw : w.toNat = a + 65536 * b) (ha : a < 512) (hb : b < 512) (p : ℕ) (hp : p < 2) :
    ((IntOp.shli .vector w 7#32).extractLsb' (16 * p) 16).toNat = (if p = 0 then a else b) * 128 := by
  rw [half_toNat _ p hp]
  have hs : (IntOp.shli .vector w 7#32).toNat = w.toNat * 128 % 2 ^ 32 := by
    unfold IntOp.shli
    rw [if_pos (by decide)]
    show (w <<< 7).toNat = _
    rw [BitVec.toNat_shiftLeft, Nat.shiftLeft_eq]
  rw [hs, hw]
  interval_cases p
  · simp; omega
  · simp; omega

/-- The words of the inverse scales' fields. -/
theorem inv_word (w : BitVec 32) (a b : ℕ) (hw : w.toNat = a + 65536 * b) (ha : a ≤ 254) (hb : b ≤ 254) :
    (16646398#32 - w).toNat = (254 - a) + 65536 * (254 - b) := by
  rw [BitVec.toNat_sub, hw]
  simp
  omega

/-- A field of a word as a number. -/
theorem field_half (w : BitVec 32) (a b : ℕ) (hw : w.toNat = a + 65536 * b) (ha : a < 512) (hb : b < 512) (p : ℕ) (hp : p < 2) :
    (w.extractLsb' (16 * p) 16).toNat = if p = 0 then a else b := by
  rw [half_toNat _ p hp, hw]
  interval_cases p
  · simp; omega
  · simp; omega

end Cert.Mx

end
-- ==== Proof.Lanes.lean ====
/-
  One chunk read at an index over the extended reals: the group maximum, the fields, the scales, the codes, and the
  codes times their scales.
-/
module

public import proofs.«01_k».proof.Proof.Words
public import Idealize.ShloMosaic.Lib.Pointwise

@[expose] public section

set_option maxRecDepth 16384

noncomputable section

namespace Cert.Mx

open Idealize.ShloMosaic Cert.KernelIdeal Cert.KernelIdeal.Gen

/-- The lane a lane is compared with: `dn` up when bit `dn` of its number is clear, `dn` down when it is set. -/
def partner (up dn : BitVec 32) (l : Fin 128) : Fin 128 :=
  if BitVec.ofNat 32 l.val &&& dn = 0#32 then ⟨(l.val + 128 - up.toNat % 128) % 128, Nat.mod_lt _ (by norm_num)⟩
  else ⟨(l.val + 128 - dn.toNat % 128) % 128, Nat.mod_lt _ (by norm_num)⟩

/-- One round of the running maximum at an index. -/
theorem gstep_apply (up dn : BitVec 32) (a : FVec Ideal S256x128 .bf16) (R : Fin 256) (l : Fin 128) :
    gstep up dn a (ix2 R l) = max (a (ix2 R l)) (a (ix2 R (partner up dn l))) := by
  pointwise [gstep, laneC]
  have hR : 2 * (R.val / 2) + R.val % 2 = R.val := by omega
  have hc : ∀ p q : EReal, Scalar.select (IntOp.cmpi .eq (IntOp.andi (BitVec.ofNat 32 l.val) dn) 0#32) p q
      = if BitVec.ofNat 32 l.val &&& dn = 0#32 then p else q := by
    intro p q
    show (if BitVec.ofBool (BitVec.ofNat 32 l.val &&& dn == 0#32) = 1 then p else q) = _
    by_cases h : BitVec.ofNat 32 l.val &&& dn = 0#32
    · rw [if_pos h, h]; rfl
    · rw [if_neg h, beq_eq_false_iff_ne.mpr h]; rfl
  rw [hc, hc]
  congr 1
  unfold partner
  rcases Nat.mod_two_eq_zero_or_one R.val with h0 | h0
  · rw [if_pos h0]
    have e : ∀ hh : 2 * (R.val / 2) < 256, (⟨2 * (R.val / 2), hh⟩ : Fin 256) = R := fun _ => Fin.ext (show 2 * (R.val / 2) = R.val by omega)
    rw [e]
    split <;> rfl
  · rw [if_neg (by omega)]
    have e : ∀ hh : 2 * (R.val / 2) + 1 < 256, (⟨2 * (R.val / 2) + 1, hh⟩ : Fin 256) = R :=
      fun _ => Fin.ext (show 2 * (R.val / 2) + 1 = R.val by omega)
    rw [e]
    split <;> rfl

/-- The largest value of `f` over the lanes that share `l`'s block of `m`. -/
def blockSup (m : ℕ) (f : Fin 128 → EReal) (l : Fin 128) : EReal :=
  (Finset.univ.filter fun l' : Fin 128 => l'.val / m = l.val / m).sup f

/-- A round doubles the block. -/
theorem blockSup_step (up dn : BitVec 32) (m m' : ℕ) (hm : m' = 2 * m) (f : Fin 128 → EReal) (a : FVec Ideal S256x128 .bf16) (R : Fin 256)
    (h : ∀ l l' : Fin 128, l'.val / m' = l.val / m' ↔
      (l'.val / m = l.val / m ∨ l'.val / m = (partner up dn l).val / m))
    (ha : ∀ l, a (ix2 R l) = blockSup m f l) (l : Fin 128) :
    gstep up dn a (ix2 R l) = blockSup m' f l := by
  rw [gstep_apply, ha, ha]
  unfold blockSup
  rw [← Finset.sup_union]
  congr 1
  ext l'
  simp only [Finset.mem_union, Finset.mem_filter, Finset.mem_univ, true_and]
  exact (h l l').symm

/-- The magnitude of a value. -/
def mag (x : EReal) : EReal := FloatOps.absf (F := Ideal) (φ := .bf16) x

/-- The group maximum at an index is the largest magnitude among the 32 lanes of its group. -/
theorem gmaxC_apply (x : FVec Ideal S256x128 .bf16) (R : Fin 256) (l : Fin 128) :
    gmaxC x (ix2 R l) = blockSup 32 (fun l' => mag (x (ix2 R l'))) l := by
  unfold gmaxC
  generalize hf : (fun l' : Fin 128 => mag (x (ix2 R l'))) = f
  refine blockSup_step 112#32 16#32 16 32 rfl f _ R (by decide +kernel) ?_ l
  refine blockSup_step 120#32 8#32 8 16 rfl f _ R (by decide +kernel) ?_
  refine blockSup_step 124#32 4#32 4 8 rfl f _ R (by decide +kernel) ?_
  refine blockSup_step 126#32 2#32 2 4 rfl f _ R (by decide +kernel) ?_
  refine blockSup_step 127#32 1#32 1 2 rfl f _ R (by decide +kernel) ?_
  intro l
  have hs : (Finset.univ.filter fun l' : Fin 128 => l'.val / 1 = l.val / 1) = {l} := by
    ext l'
    simp [Fin.ext_iff]
  unfold blockSup
  rw [hs, Finset.sup_singleton, ← hf]
  pointwise [mag]

/-- The largest magnitude of the group of `x` that lane `l` of row `R` lies in. -/
def gs (x : FVec Ideal S256x128 .bf16) (R : Fin 256) (l : Fin 128) : EReal :=
  blockSup 32 (fun l' => mag (x (ix2 R l'))) l

/-- A round of the exponent search at an index: its value. -/
theorem bval_apply (thr inv : BitVec 32) (v : FVec Ideal S256x128 .f32) (i : S256x128.Idx) :
    bval thr inv v i = sval thr inv (v i) := rfl

/-- A round of the exponent search at an index: its exponent. -/
theorem bexp_apply (thr k : BitVec 32) (v : FVec Ideal S256x128 .f32) (e : IVec S256x128 32) (i : S256x128.Idx) :
    bexp thr k v e i = sexp thr k (v i) (e i) := rfl

/-- The search's last value at an index. -/
theorem bval7_apply (v : FVec Ideal S256x128 .f32) (i : S256x128.Idx) : bval7 v i = sval7 (v i) := by
  have h : bval0 v i = sval0 (v i) := rfl
  unfold bval7 bval6 bval5 bval4 bval3 bval2 bval1 sval7 sval6 sval5 sval4 sval3 sval2 sval1
  simp only [bval_apply, h]

/-- The search's last exponent at an index. -/
theorem bexp7_apply (v : FVec Ideal S256x128 .f32) (i : S256x128.Idx) : bexp7 v i = sexp7 (v i) := by
  have h : bval0 v i = sval0 (v i) := rfl
  have h' : bexp0 v i = sexp0 (v i) := rfl
  unfold bexp7 bexp6 bexp5 bexp4 bexp3 bexp2 bexp1 sexp7 sexp6 sexp5 sexp4 sexp3 sexp2 sexp1
  unfold bval6 bval5 bval4 bval3 bval2 bval1 sval6 sval5 sval4 sval3 sval2 sval1
  simp only [bexp_apply, bval_apply, h, h']

/-- The fraction times 128 at an index. -/
theorem fracC_apply (v : FVec Ideal S256x128 .f32) (i : S256x128.Idx) : fracC v i = sfrac (v i) := by
  unfold fracC sfrac
  rw [← bval7_apply]
  rfl

/-- An exponent and a fraction put together, at an index. -/
theorem join_apply (E : IVec S256x128 32) (Q : FVec Ideal S256x128 .f32) (i : S256x128.Idx) :
    addi (shli E (broadcast S256x128 7#32))
        (fptosi 32 (select (cmpf .olt Q (broadcast S256x128 (Scalar.ofBits .f32 0x43000000#32))) Q
          (broadcast S256x128 (Scalar.ofBits .f32 0x43000000#32)))) i
      = IntOp.shli .vector (E i) 7#32 + Ideal.fptosi 32 (Scalar.select (Ideal.cmp .olt (Q i) (Ideal.ofBits .f32 0x43000000#32))
          (Q i) (Ideal.ofBits .f32 0x43000000#32)) := rfl

/-- The bits of the magnitude at an index. -/
theorem bitsC_apply (x : FVec Ideal S256x128 .bf16) (R : Fin 256) (l : Fin 128) :
    bitsC (amaxC (gmaxC x)) (ix2 R l) = sbits (samax (gs x R l)) := by
  have ha : amaxC (gmaxC x) (ix2 R l) = samax (gs x R l) := by
    show samax (gmaxC x (ix2 R l)) = _
    rw [gmaxC_apply]
    rfl
  unfold bitsC sbits
  rw [join_apply, fracC_apply, bexp7_apply, ha]

/-- The words of fields at an index. -/
theorem packC_apply (b : IVec S256x128 32) (r l : Fin 128) :
    packC b (ix2 r l) = packWord ((b (ix2 (⟨2 * r.val + 1, by omega⟩ : Fin 256) l)).setWidth 16
      ++ (b (ix2 (⟨2 * r.val, by omega⟩ : Fin 256) l)).setWidth 16) - 524296#32 := by
  show IntOp.subi (IntOp.andi (IntOp.shrui .vector (IntOp.addi (bitcast S128x128 32 (trunci 16 b natLt_16_32)
    bitcasts_S256x128_w16_S128x128_w32 (ix2 r l)) 2097184#32) 7#32) 33489407#32) 524296#32 = _
  rw [bitcast_16_32]
  have e1 : ∀ hh, bitcasts_S256x128_w16_S128x128_w32.srcIdx (ix2 r l) (2 * S128x128.row (ix2 r l) + 1) hh
      = ix2 (⟨2 * r.val + 1, by omega⟩ : Fin 256) l := fun _ => by
    funext a; match a with | ⟨0, _⟩ => rfl | ⟨1, _⟩ => rfl
  have e0 : ∀ hh, bitcasts_S256x128_w16_S128x128_w32.srcIdx (ix2 r l) (2 * S128x128.row (ix2 r l)) hh
      = ix2 (⟨2 * r.val, by omega⟩ : Fin 256) l := fun _ => by
    funext a; match a with | ⟨0, _⟩ => rfl | ⟨1, _⟩ => rfl
  rw [e1, e0]
  rfl

/-- A chunk's word of fields, as a number: the field of the even row below, that of the odd row above. -/
theorem fieldC_toNat (x : FVec Ideal S256x128 .bf16) (hx : ∀ R l, InRange (gs x R l)) (r l : Fin 128) :
    (fieldC x (ix2 r l)).toNat = sfield (gs x (⟨2 * r.val, by omega⟩ : Fin 256) l)
      + 65536 * sfield (gs x (⟨2 * r.val + 1, by omega⟩ : Fin 256) l) := by
  unfold fieldC
  rw [packC_apply, bitsC_apply, bitsC_apply]
  have a := field_spec _ (hx (⟨2 * r.val, by omega⟩ : Fin 256) l)
  have b := field_spec _ (hx (⟨2 * r.val + 1, by omega⟩ : Fin 256) l)
  have h : ∀ w : BitVec 32, w.toNat + 32 < 32768 → (w.setWidth 16).toNat = w.toNat := by
    intro w hw
    rw [BitVec.toNat_setWidth, Nat.mod_eq_of_lt (by omega)]
  rw [field_word _ _ (by rw [h _ a.1]; exact a.1) (by rw [h _ b.1]; exact b.1) (by rw [h _ a.1]; exact a.2.1)
    (by rw [h _ b.1]; exact b.2.1), h _ a.1, h _ b.1]
  rfl

/-- The sixteen bits at a place of a reinterpreted array of words. -/
theorem halves_apply (f : IVec S128x128 32) (R : Fin 256) (l : Fin 128) :
    bitcast S256x128 16 f bitcasts_S128x128_w32_S256x128_w16 (ix2 R l)
      = (f (ix2 (⟨R.val / 2, by omega⟩ : Fin 128) l)).extractLsb' (16 * (R.val % 2)) 16 := by
  rw [bitcast_32_16]
  have e : ∀ hh, bitcasts_S128x128_w32_S256x128_w16.srcIdx (ix2 R l) (S256x128.row (ix2 R l) / 2) hh
      = ix2 (⟨R.val / 2, by omega⟩ : Fin 128) l := fun _ => by
    funext a; match a with | ⟨0, _⟩ => rfl | ⟨1, _⟩ => rfl
  rw [e]
  rfl

/-- Of the two rows of a word, the one at hand. -/
theorem row_pick (f : Fin 256 → ℕ) (R : Fin 256) (h0 : 2 * (R.val / 2) < 256) (h1 : 2 * (R.val / 2) + 1 < 256) :
    (if R.val % 2 = 0 then f ⟨2 * (R.val / 2), h0⟩ else f ⟨2 * (R.val / 2) + 1, h1⟩) = f R := by
  split
  · exact congrArg f (Fin.ext (show 2 * (R.val / 2) = R.val by omega))
  · exact congrArg f (Fin.ext (show 2 * (R.val / 2) + 1 = R.val by omega))

/-- The scale at a place. -/
theorem fwdC_apply (x : FVec Ideal S256x128 .bf16) (hx : ∀ R l, InRange (gs x R l)) (R : Fin 256) (l : Fin 128) :
    fwdC (F := Ideal) (fieldC x) (ix2 R l) = (((2 : ℝ) ^ ((sfield (gs x R l) : ℤ) - 127) : ℝ) : EReal) := by
  have hf := fun R l => field_spec _ (hx R l)
  show Ideal.ofBits .bf16 (bitcast S256x128 16 (shli (fieldC x) (broadcast S128x128 7#32))
    bitcasts_S128x128_w32_S256x128_w16 (ix2 R l)) = _
  rw [halves_apply]
  refine ofBits_bf16_pow _ _ ?_ (by have := hf R l; omega) (by have := hf R l; omega)
  show ((IntOp.shli .vector (fieldC x (ix2 (⟨R.val / 2, by omega⟩ : Fin 128) l)) 7#32).extractLsb' (16 * (R.val % 2)) 16).toNat = _
  rw [fwd_word _ _ _ (fieldC_toNat x hx _ l) (by have := (hf (⟨2 * (R.val / 2), by omega⟩ : Fin 256) l).2.2.2.1; exact lt_of_le_of_lt this (by norm_num))
    (by have := (hf (⟨2 * (R.val / 2) + 1, by omega⟩ : Fin 256) l).2.2.2.1; exact lt_of_le_of_lt this (by norm_num)) _ (by omega)]
  rw [row_pick (fun R => sfield (gs x R l))]

/-- The inverse scale at a place. -/
theorem invC_apply (x : FVec Ideal S256x128 .bf16) (hx : ∀ R l, InRange (gs x R l)) (R : Fin 256) (l : Fin 128) :
    invC (F := Ideal) (fieldC x) (ix2 R l) = (((2 : ℝ) ^ (127 - (sfield (gs x R l) : ℤ)) : ℝ) : EReal) := by
  have hf := fun R l => field_spec _ (hx R l)
  show Ideal.ofBits .bf16 (bitcast S256x128 16 (shli (subi (broadcast S128x128 16646398#32) (fieldC x))
    (broadcast S128x128 7#32)) bitcasts_S128x128_w32_S256x128_w16 (ix2 R l)) = _
  rw [halves_apply]
  have hz : (127 - (sfield (gs x R l) : ℤ)) = ((254 - sfield (gs x R l) : ℕ) : ℤ) - 127 := by
    have := hf R l; omega
  rw [hz]
  refine ofBits_bf16_pow _ _ ?_ (by have := hf R l; omega) (by have := hf R l; omega)
  show ((IntOp.shli .vector (16646398#32 - fieldC x (ix2 (⟨R.val / 2, by omega⟩ : Fin 128) l)) 7#32).extractLsb'
    (16 * (R.val % 2)) 16).toNat = _
  rw [fwd_word _ _ _ (inv_word _ _ _ (fieldC_toNat x hx _ l)
    (by have := (hf (⟨2 * (R.val / 2), by omega⟩ : Fin 256) l).2.2.2.1; exact le_trans this (by norm_num))
    (by have := (hf (⟨2 * (R.val / 2) + 1, by omega⟩ : Fin 256) l).2.2.2.1; exact le_trans this (by norm_num))) (by omega) (by omega) _ (by omega)]
  rw [row_pick (fun R => 254 - sfield (gs x R l))]

/-- A value scaled and clipped to the range of the codes. -/
def clip (x : EReal) (s : EReal) : EReal :=
  min (Ideal.ofBits .f32 0x43E00000#32) (max (Ideal.ofBits .f32 0xC3E00000#32) (x * s))

/-- A chunk's code at a place. -/
theorem codesC_apply (x : FVec Ideal S256x128 .bf16) (hx : ∀ R l, InRange (gs x R l)) (R : Fin 256) (l : Fin 128) :
    codesC x (ix2 R l) = clip (x (ix2 R l)) (((2 : ℝ) ^ (127 - (sfield (gs x R l) : ℤ)) : ℝ) : EReal) := by
  rw [← invC_apply x hx]
  unfold clip
  pointwise [codesC]

/-- A chunk's code times its scale at a place. -/
theorem xdC_apply (x : FVec Ideal S256x128 .bf16) (hx : ∀ R l, InRange (gs x R l)) (R : Fin 256) (l : Fin 128) :
    xdC x (ix2 R l) = clip (x (ix2 R l)) (((2 : ℝ) ^ (127 - (sfield (gs x R l) : ℤ)) : ℝ) : EReal)
      * (((2 : ℝ) ^ ((sfield (gs x R l) : ℤ) - 127) : ℝ) : EReal) := by
  rw [← fwdC_apply x hx, ← codesC_apply x hx]
  rfl

end Cert.Mx

end
-- ==== Proof.Blocks.lean ====
/-
  What each of the three regions leaves in one block, index by index.
-/
module

public import proofs.«01_k».proof.Proof.Lanes
public import Idealize.ShloMosaic.Lib.Pipeline.Value

@[expose] public section

set_option maxRecDepth 16384

noncomputable section

namespace Cert.Mx

open Idealize.ShloMosaic Cert.KernelIdeal Cert.KernelIdeal.Gen

/-! ### The quantizer on one row -/

/-- The largest magnitude of group `g` of a row. -/
def rowMax (f : Fin 2048 → EReal) (g : Fin 64) : EReal :=
  Finset.univ.sup fun i : Fin 32 => mag (f ⟨32 * g.val + i.val, by omega⟩)

/-- The group a column lies in. -/
def grp (C : Fin 2048) : Fin 64 := ⟨C.val / 32, by omega⟩

/-- The field of a group of a row. -/
def qfield (f : Fin 2048 → EReal) (g : Fin 64) : ℕ := sfield (rowMax f g)

/-- The code of an element of a row. -/
def qcode (f : Fin 2048 → EReal) (C : Fin 2048) : EReal :=
  clip (f C) (((2 : ℝ) ^ (127 - (qfield f (grp C) : ℤ)) : ℝ) : EReal)

/-- The code of an element of a row, times its scale. -/
def qxd (f : Fin 2048 → EReal) (C : Fin 2048) : EReal :=
  qcode f C * (((2 : ℝ) ^ ((qfield f (grp C) : ℤ) - 127) : ℝ) : EReal)

/-- Every group of a row is in the range the kernel and the reference agree on. -/
def RowOk (f : Fin 2048 → EReal) : Prop := ∀ g, InRange (rowMax f g)

/-! ### Chunks of a block -/

/-- A chunk read at an index. -/
theorem ld_apply (x0 : Vec Ideal S256x2048 .bf16) (o : ℕ) (ho : o + 128 ≤ 2048) (inb) (R : Fin 256) (l : Fin 128) :
    View.ld x0 (Rect.unit (s := S256x2048) ![0, o] S256x128.size inb) (ix2 R l)
      = x0 (ix2 R (⟨o + l.val, by omega⟩ : Fin 2048)) := by
  pointwise

/-- The group maximum seen in a chunk is that of the row. -/
theorem gs_ld (x0 : Vec Ideal S256x2048 .bf16) (c o : ℕ) (hc : o = 128 * c) (ho : o + 128 ≤ 2048) (inb) (R : Fin 256)
    (l : Fin 128) :
    gs (View.ld x0 (Rect.unit (s := S256x2048) ![0, o] S256x128.size inb)) R l
      = rowMax (fun k => x0 (ix2 R k)) (grp ⟨o + l.val, by omega⟩) := by
  have hd : (o + l.val) / 32 = 4 * c + l.val / 32 := by omega
  unfold gs blockSup rowMax
  apply le_antisymm
  · refine Finset.sup_le fun l' hl' => ?_
    have h' : l'.val / 32 = l.val / 32 := (Finset.mem_filter.mp hl').2
    rw [ld_apply x0 o ho]
    refine le_trans (le_of_eq ?_) (Finset.le_sup (Finset.mem_univ (⟨l'.val % 32, Nat.mod_lt _ (by norm_num)⟩ : Fin 32)))
    refine congrArg (fun k => mag (x0 (ix2 R k))) (Fin.ext ?_)
    show o + l'.val = 32 * ((o + l.val) / 32) + l'.val % 32
    omega
  · refine Finset.sup_le fun i _ => ?_
    have hi := i.isLt
    have hl := l.isLt
    refine le_trans (le_of_eq ?_) (Finset.le_sup (b := (⟨32 * (l.val / 32) + i.val, by omega⟩ : Fin 128))
      (Finset.mem_filter.mpr ⟨Finset.mem_univ _, show (32 * (l.val / 32) + i.val) / 32 = l.val / 32 by omega⟩))
    simp only [ld_apply x0 o ho]
    refine congrArg (fun k => mag (x0 (ix2 R k))) (Fin.ext ?_)
    show 32 * ((o + l.val) / 32) + i.val = o + (32 * (l.val / 32) + i.val)
    omega

/-- The chunks of a block whose rows are in range are in range. -/
theorem ok_ld (x0 : Vec Ideal S256x2048 .bf16) (hx : ∀ R : Fin 256, RowOk fun k => x0 (ix2 R k)) (c o : ℕ) (hc : o = 128 * c)
    (ho : o + 128 ≤ 2048) (inb) (R : Fin 256) (l : Fin 128) :
    InRange (gs (View.ld x0 (Rect.unit (s := S256x2048) ![0, o] S256x128.size inb)) R l) := by
  rw [gs_ld x0 c o hc ho inb]
  exact hx R _

/-- A place of a chunk in its block. -/
theorem emb_chunk (o : ℕ) (ho : o + 128 ≤ 2048) (inb) (x : S256x128.Idx) :
    (Rect.unit (s := S256x2048) ![0, o] S256x128.size inb).emb x
      = ix2 (⟨(x 0).val, (x 0).isLt⟩ : Fin 256) (⟨o + (x 1).val, by have := (x 1).isLt; simp at this; omega⟩ : Fin 2048) := by
  funext a
  match a with
  | ⟨0, _⟩ => apply Fin.ext; show 0 + 1 * (x 0).val = (x 0).val; omega
  | ⟨1, _⟩ => apply Fin.ext; show o + 1 * (x 1).val = o + (x 1).val; omega

/-- A chunk's codes are the rows' codes. -/
theorem piece_codes (x0 : Vec Ideal S256x2048 .bf16) (hx : ∀ R : Fin 256, RowOk fun k => x0 (ix2 R k)) (c o : ℕ)
    (hc : o = 128 * c) (ho : o + 128 ≤ 2048) {inb} (x : S256x128.Idx) :
    codesC (F := Ideal) (View.ld x0 (Rect.unit (s := S256x2048) ![0, o] S256x128.size inb)) x
      = (fun i : S256x2048.Idx => qcode (fun k => x0 (ix2 (i 0) k)) (i 1))
          ((Rect.unit (s := S256x2048) ![0, o] S256x128.size inb).emb x) := by
  rw [emb_chunk o ho]
  obtain ⟨R, l, rfl⟩ : ∃ (R : Fin 256) (l : Fin 128), x = ix2 R l := ⟨x 0, x 1, funext fun a => by
    match a with | ⟨0, _⟩ => rfl | ⟨1, _⟩ => rfl⟩
  rw [codesC_apply _ (ok_ld x0 hx c o hc ho inb), gs_ld x0 c o hc ho inb, ld_apply x0 o ho]
  rfl

/-- A chunk's codes times scales are the rows'. -/
theorem piece_xd (x0 : Vec Ideal S256x2048 .bf16) (hx : ∀ R : Fin 256, RowOk fun k => x0 (ix2 R k)) (c o : ℕ)
    (hc : o = 128 * c) (ho : o + 128 ≤ 2048) {inb} (x : S256x128.Idx) :
    xdC (F := Ideal) (View.ld x0 (Rect.unit (s := S256x2048) ![0, o] S256x128.size inb)) x
      = (fun i : S256x2048.Idx => qxd (fun k => x0 (ix2 (i 0) k)) (i 1))
          ((Rect.unit (s := S256x2048) ![0, o] S256x128.size inb).emb x) := by
  rw [emb_chunk o ho]
  obtain ⟨R, l, rfl⟩ : ∃ (R : Fin 256) (l : Fin 128), x = ix2 R l := ⟨x 0, x 1, funext fun a => by
    match a with | ⟨0, _⟩ => rfl | ⟨1, _⟩ => rfl⟩
  rw [xdC_apply _ (ok_ld x0 hx c o hc ho inb), gs_ld x0 c o hc ho inb, ld_apply x0 o ho]
  rfl

/-- The codes a block ends with. -/
theorem out0_1_apply (x0 : Vec Ideal S256x2048 .bf16) (hx : ∀ R : Fin 256, RowOk fun k => x0 (ix2 R k)) (y : S256x2048.Idx) :
    out0_1 x0 y = qcode (fun k => x0 (ix2 (y 0) k)) (y 1) := by
  rw [out0_1_chunks]
  refine View.canon_apply_of_pieces (Val := Elt Ideal) (fun i : S256x2048.Idx => qcode (fun k => x0 (ix2 (i 0) k)) (i 1)) _ ?_ y
    (cover0_1 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩ <;> intro x
  · exact piece_codes x0 hx 15 1920 rfl (by norm_num) _
  · exact piece_codes x0 hx 14 1792 rfl (by norm_num) _
  · exact piece_codes x0 hx 13 1664 rfl (by norm_num) _
  · exact piece_codes x0 hx 12 1536 rfl (by norm_num) _
  · exact piece_codes x0 hx 11 1408 rfl (by norm_num) _
  · exact piece_codes x0 hx 10 1280 rfl (by norm_num) _
  · exact piece_codes x0 hx 9 1152 rfl (by norm_num) _
  · exact piece_codes x0 hx 8 1024 rfl (by norm_num) _
  · exact piece_codes x0 hx 7 896 rfl (by norm_num) _
  · exact piece_codes x0 hx 6 768 rfl (by norm_num) _
  · exact piece_codes x0 hx 5 640 rfl (by norm_num) _
  · exact piece_codes x0 hx 4 512 rfl (by norm_num) _
  · exact piece_codes x0 hx 3 384 rfl (by norm_num) _
  · exact piece_codes x0 hx 2 256 rfl (by norm_num) _
  · exact piece_codes x0 hx 1 128 rfl (by norm_num) _
  · exact piece_codes x0 hx 0 0 rfl (by norm_num) _

/-- The codes times scales a block ends with. -/
theorem out0_3_apply (x0 : Vec Ideal S256x2048 .bf16) (hx : ∀ R : Fin 256, RowOk fun k => x0 (ix2 R k)) (y : S256x2048.Idx) :
    out0_3 x0 y = qxd (fun k => x0 (ix2 (y 0) k)) (y 1) := by
  rw [out0_3_chunks]
  refine View.canon_apply_of_pieces (Val := Elt Ideal) (fun i : S256x2048.Idx => qxd (fun k => x0 (ix2 (i 0) k)) (i 1)) _ ?_ y
    (cover0_3 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩ <;> intro x
  · exact piece_xd x0 hx 15 1920 rfl (by norm_num) _
  · exact piece_xd x0 hx 14 1792 rfl (by norm_num) _
  · exact piece_xd x0 hx 13 1664 rfl (by norm_num) _
  · exact piece_xd x0 hx 12 1536 rfl (by norm_num) _
  · exact piece_xd x0 hx 11 1408 rfl (by norm_num) _
  · exact piece_xd x0 hx 10 1280 rfl (by norm_num) _
  · exact piece_xd x0 hx 9 1152 rfl (by norm_num) _
  · exact piece_xd x0 hx 8 1024 rfl (by norm_num) _
  · exact piece_xd x0 hx 7 896 rfl (by norm_num) _
  · exact piece_xd x0 hx 6 768 rfl (by norm_num) _
  · exact piece_xd x0 hx 5 640 rfl (by norm_num) _
  · exact piece_xd x0 hx 4 512 rfl (by norm_num) _
  · exact piece_xd x0 hx 3 384 rfl (by norm_num) _
  · exact piece_xd x0 hx 2 256 rfl (by norm_num) _
  · exact piece_xd x0 hx 1 128 rfl (by norm_num) _
  · exact piece_xd x0 hx 0 0 rfl (by norm_num) _

/-! ### The scales of a block -/

/-- The lane number modulo 32 at an index. -/
theorem lane32_apply (r l : Fin 128) : lane32 (ix2 r l) = BitVec.ofNat 32 (l.val % 32) := by
  pointwise [lane32, laneC]
  clear r
  revert l
  decide +kernel

/-- A choice by lane number at an index. -/
theorem pick_apply (c : ℕ) (hc : c < 32) (f p : IVec S128x128 32) (r l : Fin 128) :
    pick (BitVec.ofNat 32 c) f p (ix2 r l) = if l.val % 32 = c then f (ix2 r l) else p (ix2 r l) := by
  show Scalar.select (IntOp.cmpi .eq (lane32 (ix2 r l)) (BitVec.ofNat 32 c)) _ _ = _
  rw [lane32_apply]
  show (if BitVec.ofBool (BitVec.ofNat 32 (l.val % 32) == BitVec.ofNat 32 c) = 1 then _ else _) = _
  by_cases h : l.val % 32 = c
  · rw [if_pos h, h, beq_self_eq_true]; rfl
  · have hne : BitVec.ofNat 32 (l.val % 32) ≠ BitVec.ofNat 32 c := fun e => h (by
      have := congrArg BitVec.toNat e
      simp only [BitVec.toNat_ofNat] at this
      omega)
    rw [if_neg h, beq_eq_false_iff_ne.mpr hne]; rfl

/-- The lane each of the 64 bytes of a row is read from. -/
def orderC : IVec S128x128 32 :=
  have v2956 : IVec S128x128 1 := broadcastTo S128x128 k0_pay528 broadcasts_S128x128_S128x128
  have v2957 : IVec S128x128 1 := xori (k0_pay527 laneC) v2956
  have v2958 : IVec S128x128 1 := andi v2957 (k0_pay526 laneC)
  have v2959 : IVec S128x128 32 := broadcast S128x128 (Scalar.select (Scalar.cmpi .eq 4#32 0#32) 1#32 4#32)
  have v2960 : IVec S128x128 32 := addi (k0_pay525 laneC) v2959
  have v2961 : IVec S128x128 32 := select v2958 v2960 (k0_pay525 laneC)
  have v2962 : IVec S128x128 32 := broadcast S128x128 32#32
  have v2963 : IVec S128x128 32 := muli v2961 v2962
  have v2964 : IVec S128x128 32 := broadcast S128x128 4#32
  have v2965 : IVec S128x128 32 := divsi laneC v2964
  have v2966 : IVec S128x128 32 := broadcast S128x128 0#32
  have v2967 : IVec S128x128 1 := cmpi .sgt laneC v2966
  have v2968 : IVec S128x128 32 := extui 32 v2967 natLt_1_32
  have v2969 : IVec S128x128 32 := broadcast S128x128 0#32
  have v2970 : IVec S128x128 1 := cmpi .slt laneC v2969
  have v2971 : IVec S128x128 32 := extui 32 v2970 natLt_1_32
  have v2972 : IVec S128x128 32 := subi v2968 v2971
  let v2973 : BitVec 1 := Scalar.cmpi .sgt 4#32 0#32
  let v2974 : BitVec 32 := Scalar.extui v2973
  let v2975 : BitVec 1 := Scalar.cmpi .slt 4#32 0#32
  let v2976 : BitVec 32 := Scalar.extui v2975
  let v2977 : BitVec 32 := Scalar.subi v2974 v2976
  have v2978 : IVec S128x128 32 := broadcast S128x128 v2977
  have v2979 : IVec S128x128 1 := cmpi .ne v2972 v2978
  have v2980 : IVec S128x128 32 := broadcast S128x128 4#32
  have v2981 : IVec S128x128 32 := remsi laneC v2980
  have v2982 : IVec S128x128 32 := broadcast S128x128 0#32
  have v2983 : IVec S128x128 1 := cmpi .ne v2981 v2982
  have v2984 : IVec S128x128 1 := andi v2979 v2983
  have v2985 : IVec S128x128 32 := broadcast S128x128 1#32
  have v2986 : IVec S128x128 32 := subi v2965 v2985
  have v2987 : IVec S128x128 32 := select v2984 v2986 v2965
  have v2988 : IVec S128x128 32 := addi v2963 v2987
  have v2989 : IVec S128x128 32 := broadcast S128x128 64#32
  have v2990 : IVec S128x128 1 := cmpi .slt laneC v2989
  have v2991 : IVec S128x128 32 := broadcast S128x128 0#32
  have v2992 : IVec S128x128 32 := select v2990 v2988 v2991
  have v2993 : IVec S128x128 32 := broadcast S128x128 0#32
  have v2994 : IVec S128x128 1 := cmpi .slt v2992 v2993
  have v2995 : IVec S128x128 32 := broadcast S128x128 128#32
  have v2996 : IVec S128x128 32 := addi v2992 v2995
  have v2997 : IVec S128x128 32 := select v2994 v2996 v2992
  have v2998 : IVec S128x128x1 32 := shapeCast S128x128x1 v2997 shapeCasts_S128x128_S128x128x1
  have v2999 : IVec S128x128 32 := shapeCast S128x128 v2998 shapeCasts_S128x128x1_S128x128
  v2999

/-- The scales are the picked fields read in that order, cut to bytes. -/
theorem scalesC_eq (p : IVec S128x128 32) : scalesC p = trunci 8 (extractStridedSlice S256x64 ![0, 0]
    (extsi 32 (bitcast S256x128 16 (dynamicGather 1 p orderC) bitcasts_S128x128_w32_S256x128_w16) natLt_16_32)
    slices_S256x128_o0_0_S256x64) natLt_8_32 := rfl

/-- The order at an index. -/
theorem orderC_apply (r l : Fin 128) :
    orderC (ix2 r l) = BitVec.ofNat 32 (if l.val < 64 then l.val % 4 * 32 + l.val / 4 else 0) := by
  pointwise [orderC, k0_pay525, k0_pay526, k0_pay527, k0_pay528, laneC]
  clear r
  revert l
  decide +kernel

/-- A byte of the scales from the picked fields. -/
theorem scalesC_apply (p : IVec S128x128 32) (R : Fin 256) (g : Fin 64) :
    scalesC p (ix2 R g) = (((p (ix2 (⟨R.val / 2, by omega⟩ : Fin 128) (⟨g.val % 4 * 32 + g.val / 4, by omega⟩ : Fin 128))).extractLsb'
      (16 * (R.val % 2)) 16).signExtend 32).setWidth 8 := by
  rw [scalesC_eq]
  have h1 : ∀ q : IVec S256x128 32, extractStridedSlice S256x64 ![0, 0] q slices_S256x128_o0_0_S256x64 (ix2 R g)
      = q (ix2 R (⟨g.val, by omega⟩ : Fin 128)) := fun q => by pointwise
  show BitVec.setWidth 8 (extractStridedSlice S256x64 ![0, 0] (extsi 32 (bitcast S256x128 16 (dynamicGather 1 p orderC)
    bitcasts_S128x128_w32_S256x128_w16) natLt_16_32) slices_S256x128_o0_0_S256x64 (ix2 R g)) = _
  rw [h1]
  show ((bitcast S256x128 16 (dynamicGather 1 p orderC) bitcasts_S128x128_w32_S256x128_w16
    (ix2 R (⟨g.val, by omega⟩ : Fin 128))).signExtend 32).setWidth 8 = _
  rw [halves_apply]
  have h2 : dynamicGather 1 p orderC (ix2 (⟨R.val / 2, by omega⟩ : Fin 128) (⟨g.val, by omega⟩ : Fin 128))
      = p (ix2 (⟨R.val / 2, by omega⟩ : Fin 128) (⟨g.val % 4 * 32 + g.val / 4, by omega⟩ : Fin 128)) := by
    have ho := orderC_apply (⟨R.val / 2, by omega⟩ : Fin 128) (⟨g.val, by omega⟩ : Fin 128)
    unfold dynamicGather
    refine congrArg p (funext fun a => ?_)
    match a with
    | ⟨0, _⟩ => rfl
    | ⟨1, _⟩ =>
      apply Fin.ext
      show (orderC (ix2 (⟨R.val / 2, by omega⟩ : Fin 128) (⟨g.val, by omega⟩ : Fin 128))).toNat % 128 = g.val % 4 * 32 + g.val / 4
      rw [ho]
      have hg := g.isLt
      simp only [hg, if_true, BitVec.toNat_ofNat]
      omega
  rw [h2]

/-- The picked field at a lane is the field of the chunk the lane names. -/
theorem pickedC_apply (x0 : Vec Ideal S256x2048 .bf16) (hx : ∀ R : Fin 256, RowOk fun k => x0 (ix2 R k)) (r l : Fin 128)
    (hl : l.val % 32 < 16) :
    (pickedC x0 (ix2 r l)).toNat
      = qfield (fun k => x0 (ix2 (⟨2 * r.val, by omega⟩ : Fin 256) k)) ⟨4 * (l.val % 32) + l.val / 32, by omega⟩
        + 65536 * qfield (fun k => x0 (ix2 (⟨2 * r.val + 1, by omega⟩ : Fin 256) k)) ⟨4 * (l.val % 32) + l.val / 32, by omega⟩ := by
  have key : ∀ (c o : ℕ) (hc : o = 128 * c) (ho : o + 128 ≤ 2048) (inb) (_ : l.val % 32 = c),
      (fieldC (F := Ideal) (View.ld x0 (Rect.unit (s := S256x2048) ![0, o] S256x128.size inb)) (ix2 r l)).toNat
        = qfield (fun k => x0 (ix2 (⟨2 * r.val, by omega⟩ : Fin 256) k)) ⟨4 * (l.val % 32) + l.val / 32, by omega⟩
          + 65536 * qfield (fun k => x0 (ix2 (⟨2 * r.val + 1, by omega⟩ : Fin 256) k))
              ⟨4 * (l.val % 32) + l.val / 32, by omega⟩ := by
    intro c o hc ho inb h
    rw [fieldC_toNat _ (ok_ld x0 hx c o hc ho inb), gs_ld x0 c o hc ho inb, gs_ld x0 c o hc ho inb]
    have hg : grp (⟨o + l.val, by omega⟩ : Fin 2048) = ⟨4 * (l.val % 32) + l.val / 32, by omega⟩ :=
      Fin.ext (show (o + l.val) / 32 = 4 * (l.val % 32) + l.val / 32 by omega)
    rw [hg]
    rfl
  unfold pickedC
  have hp : ∀ (c : ℕ) (hc : c < 32) (f p : IVec S128x128 32) (n : ℕ), (l.val % 32 = c → (f (ix2 r l)).toNat = n) →
      (l.val % 32 ≠ c → (p (ix2 r l)).toNat = n) → (pick (BitVec.ofNat 32 c) f p (ix2 r l)).toNat = n := by
    intro c hc f p n h1 h2
    rw [pick_apply c hc]
    by_cases h : l.val % 32 = c
    · rw [if_pos h]; exact h1 h
    · rw [if_neg h]; exact h2 h
  refine hp 15 (by norm_num) _ _ _ (key 15 1920 rfl (by norm_num) _) fun h15 => ?_
  refine hp 14 (by norm_num) _ _ _ (key 14 1792 rfl (by norm_num) _) fun h14 => ?_
  refine hp 13 (by norm_num) _ _ _ (key 13 1664 rfl (by norm_num) _) fun h13 => ?_
  refine hp 12 (by norm_num) _ _ _ (key 12 1536 rfl (by norm_num) _) fun h12 => ?_
  refine hp 11 (by norm_num) _ _ _ (key 11 1408 rfl (by norm_num) _) fun h11 => ?_
  refine hp 10 (by norm_num) _ _ _ (key 10 1280 rfl (by norm_num) _) fun h10 => ?_
  refine hp 9 (by norm_num) _ _ _ (key 9 1152 rfl (by norm_num) _) fun h9 => ?_
  refine hp 8 (by norm_num) _ _ _ (key 8 1024 rfl (by norm_num) _) fun h8 => ?_
  refine hp 7 (by norm_num) _ _ _ (key 7 896 rfl (by norm_num) _) fun h7 => ?_
  refine hp 6 (by norm_num) _ _ _ (key 6 768 rfl (by norm_num) _) fun h6 => ?_
  refine hp 5 (by norm_num) _ _ _ (key 5 640 rfl (by norm_num) _) fun h5 => ?_
  refine hp 4 (by norm_num) _ _ _ (key 4 512 rfl (by norm_num) _) fun h4 => ?_
  refine hp 3 (by norm_num) _ _ _ (key 3 384 rfl (by norm_num) _) fun h3 => ?_
  refine hp 2 (by norm_num) _ _ _ (key 2 256 rfl (by norm_num) _) fun h2 => ?_
  refine hp 1 (by norm_num) _ _ _ (key 1 128 rfl (by norm_num) _) fun h1 => ?_
  refine hp 0 (by norm_num) _ _ _ (key 0 0 rfl (by norm_num) _) fun h0 => ?_
  omega

/-- The scales a block ends with. -/
theorem out0_2_apply (x0 : Vec Ideal S256x2048 .bf16) (hx : ∀ R : Fin 256, RowOk fun k => x0 (ix2 R k)) (R : Fin 256) (g : Fin 64) :
    out0_2 x0 (ix2 R g) = BitVec.ofNat 8 (qfield (fun k => x0 (ix2 R k)) g) := by
  rw [out0_2_chunks, View.canon_unit_zero (funext fun a => by fin_cases a <;> rfl), scalesC_apply]
  have hg := g.isLt
  have hle : ∀ R : Fin 256, qfield (fun k => x0 (ix2 R k)) g ≤ 247 := fun R => (field_spec _ (hx R g)).2.2.2.1
  have hm32 : (g.val % 4 * 32 + g.val / 4) % 32 = g.val / 4 := by
    rw [Nat.add_comm, Nat.add_mul_mod_self_right]; exact Nat.mod_eq_of_lt (by omega)
  have hd32 : (g.val % 4 * 32 + g.val / 4) / 32 = g.val % 4 := by
    omega
  have hw := pickedC_apply x0 hx (⟨R.val / 2, by omega⟩ : Fin 128) (⟨g.val % 4 * 32 + g.val / 4, by omega⟩ : Fin 128)
    (show (g.val % 4 * 32 + g.val / 4) % 32 < 16 by rw [hm32]; omega)
  have e : ∀ hh, (⟨4 * ((g.val % 4 * 32 + g.val / 4) % 32) + (g.val % 4 * 32 + g.val / 4) / 32, hh⟩ : Fin 64) = g :=
    fun _ => Fin.ext (show 4 * ((g.val % 4 * 32 + g.val / 4) % 32) + (g.val % 4 * 32 + g.val / 4) / 32 = g.val by
      rw [hm32, hd32]; omega)
  dsimp only at hw
  rw [e] at hw
  have hf := field_half _ _ _ hw (lt_of_le_of_lt (hle _) (by norm_num)) (lt_of_le_of_lt (hle _) (by norm_num)) (R.val % 2) (by omega)
  rw [row_pick (fun R => qfield (fun k => x0 (ix2 R k)) g)] at hf
  have hR := hle R
  generalize (pickedC x0 (ix2 (⟨R.val / 2, by omega⟩ : Fin 128) (⟨g.val % 4 * 32 + g.val / 4, by omega⟩ : Fin 128))).extractLsb'
    (16 * (R.val % 2)) 16 = v at hf
  apply BitVec.eq_of_toNat_eq
  have hm : v.msb = false := by rw [BitVec.msb_eq_decide]; simp; omega
  rw [BitVec.signExtend_eq_setWidth_of_msb_false hm]
  simp only [BitVec.toNat_setWidth, BitVec.toNat_ofNat]
  omega

/-! ### The widened weights and the product -/

/-- A column's group, as the widening computes it. -/
theorem group_word (C : Fin 2048) : Scalar.select
      (IntOp.andi
        (IntOp.cmpi .ne (IntOp.subi (BitVec.setWidth 32 (IntOp.cmpi .sgt (BitVec.ofNat 32 C.val) 0#32))
            (BitVec.setWidth 32 (IntOp.cmpi .slt (BitVec.ofNat 32 C.val) 0#32)))
          (Scalar.subi (Scalar.extui (Scalar.cmpi .sgt 32#32 0#32)) (Scalar.extui (Scalar.cmpi .slt 32#32 0#32))))
        (IntOp.cmpi .ne (IntOp.remsi .vector (BitVec.ofNat 32 C.val) 32#32) 0#32))
      (IntOp.subi (IntOp.divsi .vector (BitVec.ofNat 32 C.val) 32#32) 1#32)
      (IntOp.divsi .vector (BitVec.ofNat 32 C.val) 32#32) = BitVec.ofNat 32 (C.val / 32) := by
  revert C
  decide +kernel

/-- The word of a scale as a number. -/
theorem scale_val (b : BitVec 8) : (FloatOps.sitofp .f32 (BitVec.setWidth 32 b) : Ideal .f32) = (((b.toNat : ℤ) : ℝ) : EReal) := by
  have : (BitVec.setWidth 32 b).toInt = (b.toNat : ℤ) := by
    have := b.isLt
    rw [BitVec.toInt_eq_toNat_of_lt (by rw [BitVec.toNat_setWidth]; omega), BitVec.toNat_setWidth]
    congr 1
    omega
  show (((BitVec.setWidth 32 b).toInt : ℝ) : EReal) = _
  rw [this]

/-- The scale's byte spread over its group and read as a power of two. -/
theorem widen_apply (s : Vec Ideal S256x64 .i8) (w : Vec Ideal S256x2048 .fp8e4m3) (R : Fin 256)
    (hs : ∀ g : Fin 64, 1 ≤ (s (ix2 R g) : BitVec 8).toNat ∧ (s (ix2 R g) : BitVec 8).toNat ≤ 254) (C : Fin 2048) :
    k1_pay1 s w (ix2 R C)
      = w (ix2 R C) * (((2 : ℝ) ^ (((s (ix2 R (grp C)) : BitVec 8).toNat : ℤ) - 127) : ℝ) : EReal) := by
  pointwise [k1_pay1]
  rw [group_word]
  congr 1
  have hsum : (∑ x : Fin 64, (FloatOps.sitofp .f32 (BitVec.setWidth 32 (s (ix2 R x) : BitVec 8)) : Ideal .f32)
        * (FloatOps.sitofp .f32 (BitVec.setWidth 32 (IntOp.cmpi .eq (BitVec.ofNat 32 x.val) (BitVec.ofNat 32 (C.val / 32)))) : Ideal .f32) : EReal)
      = ((((s (ix2 R (grp C)) : BitVec 8).toNat : ℤ) : ℝ) : EReal) := by
    rw [Finset.sum_eq_single (grp C)]
    · rw [scale_val]
      show _ * (FloatOps.sitofp .f32 (BitVec.setWidth 32 (BitVec.ofBool (BitVec.ofNat 32 (C.val / 32) == BitVec.ofNat 32 (C.val / 32)))) : Ideal .f32) = _
      rw [beq_self_eq_true]
      show _ * (((1 : ℤ) : ℝ) : EReal) = _
      simp
    · intro x _ hx
      have hne : BitVec.ofNat 32 x.val ≠ BitVec.ofNat 32 (C.val / 32) := fun e => hx (Fin.ext (by
        have := congrArg BitVec.toNat e
        simp only [BitVec.toNat_ofNat] at this
        show x.val = C.val / 32
        omega))
      show _ * (FloatOps.sitofp .f32 (BitVec.setWidth 32 (BitVec.ofBool (BitVec.ofNat 32 x.val == BitVec.ofNat 32 (C.val / 32)))) : Ideal .f32) = _
      rw [beq_eq_false_iff_ne.mpr hne]
      show _ * (((0 : ℤ) : ℝ) : EReal) = _
      simp
    · intro h; exact absurd (Finset.mem_univ _) h
  rw [hsum]
  have hb := hs (grp C)
  generalize (s (ix2 R (grp C)) : BitVec 8).toNat = n at hb
  refine ofBits_f32_pow _ _ ?_ (by omega) (by omega)
  have hf : (FloatOps.fptosi (F := Ideal) (φ := .f32) 32 (((n : ℤ) : ℝ) : EReal)) = BitVec.ofNat 32 n := by
    show BitVec.ofInt 32 (max _ (min _ (if 0 ≤ ((n : ℤ) : ℝ) then ⌊((n : ℤ) : ℝ)⌋ else ⌈((n : ℤ) : ℝ)⌉))) = _
    rw [if_pos (by positivity), Int.floor_intCast]
    rw [← BitVec.ofInt_natCast]
    refine congrArg (BitVec.ofInt 32) ?_
    norm_num
    omega
  rw [hf]
  unfold IntOp.shli
  rw [if_pos (by decide)]
  apply BitVec.eq_of_toNat_eq
  have hz : (127 + ((n : ℤ) - 127)).toNat = n := by omega
  rw [hz]
  show (BitVec.ofNat 32 n <<< 23).toNat = _
  rw [BitVec.toNat_shiftLeft, BitVec.toNat_ofNat, BitVec.toNat_ofNat, Nat.shiftLeft_eq]
  omega

/-- The product region at an index. -/
theorem prod_apply (a b : Vec Ideal S1024x2048 .bf16) (r : Vec Ideal S1024x1024 .bf16) (R C : Fin 1024) :
    k2_pay1 a b r (ix2 R C) = (∑ x : Fin 2048, a (ix2 R x) * b (ix2 C x) : EReal) + r (ix2 R C) := by
  pointwise [k2_pay1]

end Cert.Mx

end
-- ==== Proof.RefBody.lean ====
/-
  The reference's one body, index by index, on rows in range.
-/
module

public import proofs.«01_k».proof.Proof.Blocks
public import proofs.«01_k».proof.Proof.Gen.ReferenceIdeal.Frame

@[expose] public section

set_option maxRecDepth 16384

noncomputable section

namespace Cert.Rf

open Idealize.ShloMosaic Idealize.ShloMosaic.TcCoe Cert.ReferenceIdeal Cert.ReferenceIdeal.Gen Cert.Mx

/-- The reference's group maxima. -/
def maxA (X : Vec Ideal S12288x2048 .bf16) : FVec Ideal S12288x64 .f32 :=
  multiReduction .maximumf [2] S12288x64 (absf (k0_pay2 X)) 0xFF800000#32 reduces_S12288x64x32_S12288x64 (.inl rfl) rfl

/-- The reference's exponents from the group maxima. -/
def expA (v : FVec Ideal S12288x64 .f32) : IVec S12288x64 32 :=
  select (cmpf .oeq v (broadcast S12288x64 (Scalar.ofBits .f32 0x00000000#32))) (broadcast S12288x64 0#32)
    (fptosi 32 (addf (floor (divf (log (divf v (broadcast S12288x64 (Scalar.ofBits .f32 0x43E00000#32))))
      (log (broadcast S12288x64 (Scalar.ofBits .f32 0x40000000#32))))) (broadcast S12288x64 (Scalar.ofBits .f32 0x3F800000#32))))

/-- An exponent is `sref` of the group's maximum. -/
theorem expA_apply (v : FVec Ideal S12288x64 .f32) (i : S12288x64.Idx) : expA v i = sref (v i) := by
  unfold expA sref; rfl

/-- The reference's exponents. -/
theorem pay3_eq (X : Vec Ideal S12288x2048 .bf16) : k0_pay3 X = expA (maxA X) := by
  unfold k0_pay3 expA maxA; rfl

/-- The f32 word of minus infinity. -/
theorem ofBits_neg_inf : Ideal.ofBits .f32 0xFF800000#32 = ⊥ := by
  simp [Ideal.ofBits, Ideal.ieee]

/-- The group maximum of the reference is that of the row. -/
theorem maxA_apply (X : Vec Ideal S12288x2048 .bf16) (R : Fin 12288) (g : Fin 64) :
    maxA X (ix2 R g) = rowMax (fun k => X (ix2 R k)) g := by
  pointwise [maxA, k0_pay2]
  rw [ofBits_neg_inf]
  unfold rowMax mag
  simp only [Nat.mul_comm g.val 32]
  rfl

/-- Every row of the input is in range. -/
def RowsOk (X : Vec Ideal S12288x2048 .bf16) : Prop := ∀ R, RowOk fun k => X (ix2 R k)

/-- The reference's exponent of a group in range: its field less the bias. -/
theorem pay3_apply (X : Vec Ideal S12288x2048 .bf16) (hX : RowsOk X) (R : Fin 12288) (g : Fin 64) :
    k0_pay3 X (ix2 R g) = BitVec.ofInt 32 ((qfield (fun k => X (ix2 R k)) g : ℤ) - 127) := by
  rw [pay3_eq, expA_apply, maxA_apply]
  exact (field_spec _ (hX R g)).2.2.2.2

/-- A field is between 2 and 247. -/
theorem qfield_bounds (X : Vec Ideal S12288x2048 .bf16) (hX : RowsOk X) (R : Fin 12288) (g : Fin 64) :
    2 ≤ qfield (fun k => X (ix2 R k)) g ∧ qfield (fun k => X (ix2 R k)) g ≤ 247 :=
  ⟨(field_spec _ (hX R g)).2.2.1, (field_spec _ (hX R g)).2.2.2.1⟩

/-- Two to the power of a small integer held in a word. -/
theorem exp2_word (w : BitVec 32) (z : ℤ) (h : w.toInt = z) :
    (FloatOps.exp2 (FloatOps.sitofp .f32 w : Ideal .f32) : Ideal .f32) = (((2 : ℝ) ^ z : ℝ) : EReal) := by
  show Ideal.exp2 ((w.toInt : ℝ) : EReal) = _
  rw [h, Ideal.exp2_coe]
  exact congrArg _ (Real.rpow_intCast 2 z)

/-- A small integer read back from its word. -/
theorem toInt_small (z : ℤ) (h : -1000 ≤ z) (h' : z ≤ 1000) : (BitVec.ofInt 32 z).toInt = z := by
  rw [BitVec.toInt_ofInt]
  exact Int.bmod_eq_of_le (by norm_num; omega) (by norm_num; omega)

/-- The reference's codes before they are laid out in rows. -/
theorem pay4_apply (X : Vec Ideal S12288x2048 .bf16) (hX : RowsOk X) (R : Fin 12288) (g : Fin 64) (i : Fin 32) :
    k0_pay4 X (ix3 R g i) = qcode (fun k => X (ix2 R k)) ⟨g.val * 32 + i.val, by omega⟩ := by
  have hb := qfield_bounds X hX R g
  have hg : grp (⟨g.val * 32 + i.val, by omega⟩ : Fin 2048) = g := Fin.ext (by show (g.val * 32 + i.val) / 32 = g.val; omega)
  have h2 : k0_pay2 X (ix3 R g i) = X (ix2 R ⟨g.val * 32 + i.val, by omega⟩) := by pointwise [k0_pay2]
  unfold qcode clip
  rw [hg]
  pointwise [k0_pay4]
  rw [h2, exp2_word _ (127 - (qfield (fun k => X (ix2 R k)) g : ℤ)) ?_]
  rw [pay3_apply X hX]
  show (0#32 - BitVec.ofInt 32 _).toInt = _
  rw [BitVec.toInt_sub, toInt_small _ (by omega) (by omega)]
  show Int.bmod (0 - _) _ = _
  rw [Int.bmod_eq_of_le (by norm_num; omega) (by norm_num; omega)]
  omega

/-- The reference's codes. -/
theorem pay6_apply (X : Vec Ideal S12288x2048 .bf16) (hX : RowsOk X) (R : Fin 12288) (C : Fin 2048) :
    k0_pay6 X (ix2 R C) = qcode (fun k => X (ix2 R k)) C := by
  have hC : (⟨C.val / 32 * 32 + C.val % 32, by omega⟩ : Fin 2048) = C := Fin.ext (by show C.val / 32 * 32 + C.val % 32 = C.val; omega)
  have h : k0_pay6 X (ix2 R C) = k0_pay4 X (ix3 R ⟨C.val / 32, by omega⟩ ⟨C.val % 32, by omega⟩) := by pointwise [k0_pay6]
  rw [h, pay4_apply X hX]
  exact congrArg _ hC

/-- The reference's scale bytes. -/
theorem pay5_apply (X : Vec Ideal S12288x2048 .bf16) (hX : RowsOk X) (R : Fin 12288) (g : Fin 64) :
    k0_pay5 X (ix2 R g) = BitVec.ofNat 8 (qfield (fun k => X (ix2 R k)) g) := by
  have hb := qfield_bounds X hX R g
  have h : k0_pay5 X (ix2 R g) = BitVec.setWidth 8 (k0_pay3 X (ix2 R g) + 127#32) := by
    pointwise [k0_pay5]
    rfl
  rw [h, pay3_apply X hX, show (127#32 : BitVec 32) = BitVec.ofInt 32 127 from rfl, ← BitVec.ofInt_add,
    show (qfield (fun k => X (ix2 R k)) g : ℤ) - 127 + 127 = ((qfield (fun k => X (ix2 R k)) g : ℕ) : ℤ) by omega, BitVec.ofInt_natCast]
  apply BitVec.eq_of_toNat_eq
  simp only [BitVec.toNat_setWidth, BitVec.toNat_ofNat]
  omega

/-- A byte less the bias, as an integer. -/
theorem unbias (b : BitVec 8) : (BitVec.setWidth 32 b - 127#32).toInt = (b.toNat : ℤ) - 127 := by
  revert b; decide +kernel

/-- The exponents the reference reads back from its scale bytes. -/
theorem pay7_apply (X : Vec Ideal S12288x2048 .bf16) (hX : RowsOk X) (R : Fin 12288) (g : Fin 64) :
    (k0_pay7 X (ix2 R g)).toInt = (qfield (fun k => X (ix2 R k)) g : ℤ) - 127 := by
  have hb := qfield_bounds X hX R g
  have h : k0_pay7 X (ix2 R g) = BitVec.setWidth 32 (k0_pay5 X (ix2 R g)) - 127#32 := by
    pointwise [k0_pay7]
    rfl
  rw [h, pay5_apply X hX, unbias, BitVec.toNat_ofNat]
  omega

/-! ### The product -/

/-- A finite nonnegative factor moves into a sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- A sum over a row, group by group. -/
theorem sum_groups (f : Fin 2048 → EReal) : ∑ k, f k = ∑ g : Fin 64, ∑ i : Fin 32, f ⟨g.val * 32 + i.val, by omega⟩ := by
  rw [← Fintype.sum_prod_type' (f := fun (g : Fin 64) (i : Fin 32) => f ⟨g.val * 32 + i.val, by omega⟩)]
  refine (Fintype.sum_equiv (finProdFinEquiv (m := 64) (n := 32)) _ _ fun p => ?_).symm
  refine congrArg f (Fin.ext ?_)
  show p.1.val * 32 + p.2.val = p.2.val + 32 * p.1.val
  omega

/-- The reference's product and residual. -/
theorem pay1_apply (X : Vec Ideal S12288x2048 .bf16) (hX : RowsOk X) (W : Vec Ideal S8192x2048 .fp8e4m3) (S : Vec Ideal S8192x64 .i8)
    (D : Vec Ideal S12288x8192 .bf16) (R : Fin 12288) (C : Fin 8192) :
    k0_pay1 (k0_pay4 X) (k0_pay7 X) S W D (ix2 R C)
      = (∑ k : Fin 2048, qxd (fun k => X (ix2 R k)) k
          * (W (ix2 C k) * (((2 : ℝ) ^ (((S (ix2 C (grp k)) : BitVec 8).toNat : ℤ) - 127) : ℝ) : EReal)) : EReal) + D (ix2 R C) := by
  have h : k0_pay1 (k0_pay4 X) (k0_pay7 X) S W D (ix2 R C)
      = (∑ g : Fin 64, (∑ i : Fin 32, k0_pay4 X (ix3 R g i) * W (ix2 C ⟨g.val * 32 + i.val, by omega⟩) : EReal)
            * (FloatOps.exp2 (FloatOps.sitofp .f32 (k0_pay7 X (ix2 R g)) : Ideal .f32) : Ideal .f32)
            * (FloatOps.exp2 (FloatOps.sitofp .f32 (BitVec.setWidth 32 (S (ix2 C g) : BitVec 8) - 127#32) : Ideal .f32) : Ideal .f32) : EReal)
        + D (ix2 R C) := by
    pointwise [k0_pay1]
    rfl
  rw [h, sum_groups]
  refine congrArg (· + D (ix2 R C)) (Finset.sum_congr rfl fun g _ => ?_)
  rw [exp2_word _ _ (pay7_apply X hX R g), exp2_word _ _ (unbias (S (ix2 C g))), sum_mul_real _ _ _ (by positivity),
    sum_mul_real _ _ _ (by positivity)]
  refine Finset.sum_congr rfl fun i _ => ?_
  have hg : grp (⟨g.val * 32 + i.val, by omega⟩ : Fin 2048) = g := Fin.ext (by show (g.val * 32 + i.val) / 32 = g.val; omega)
  rw [pay4_apply X hX]
  unfold qxd
  rw [hg, mul_mul_mul_comm, ← mul_assoc]

end Cert.Rf
-- ==== Proof.Arrays.lean ====
/-
  What each of the three regions leaves in its output arrays, index by index, in terms of its input arrays.
-/
module

public import proofs.«01_k».proof.Proof.Blocks

@[expose] public section

set_option maxRecDepth 16384

noncomputable section

namespace Cert.Mx

open Idealize.ShloMosaic Idealize.ShloMosaic.TcCoe Cert.KernelIdeal Cert.KernelIdeal.Gen
open Idealize.SL Idealize.SL.Sem

variable (V : (c : Dev nD) → (b : Ref sig .tc) → Buf (Elt Ideal) ((c : Thread nD τ).loc b))

/-- The zero start of a whole-block view, as the constant function. -/
theorem zero_start : (![0, 0] : Fin 2 → Nat) = fun _ => 0 := funext fun a => by fin_cases a <;> rfl

/-! ### Region 0: the quantizer -/

/-- The array region 0 leaves the codes in. -/
def codesArr (X : Vec Ideal S12288x2048 .bf16) : Vec Ideal S12288x2048 .fp8e4m3 :=
  fun i => qcode (fun k => X (ix2 (i 0) k)) (i 1)

/-- The array region 0 leaves the scale bytes in. -/
def scalesArr (X : Vec Ideal S12288x2048 .bf16) : Vec Ideal S12288x64 .i8 :=
  fun i => BitVec.ofNat 8 (qfield (fun k => X (ix2 (i 0) k)) (i 1))

/-- The array region 0 leaves the rescaled codes in. -/
def xdArr (X : Vec Ideal S12288x2048 .bf16) : Vec Ideal S12288x2048 .bf16 :=
  fun i => qxd (fun k => X (ix2 (i 0) k)) (i 1)

/-- The block indices of region 0's windows. -/
theorem index0 : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by
  decide +kernel

/-- A point of region 0's grid is below 48. -/
theorem lt0 (t : Fin grid0.N) : t.val < 48 := lt_of_lt_of_eq t.isLt N_0

/-- Row `R` of the block at point `t` is row `256 t + R` of the array. -/
def row0 (t : Fin grid0.N) (R : Fin 256) : Fin 12288 := ⟨t.val * 256 + R.val, by have := lt0 t; omega⟩

/-- Two indices of a two-axis shape are equal when their coordinates are. -/
theorem ext2 {n0 n1 : ℕ} {i j : (⟨2, ![n0, n1]⟩ : Shape).Idx} (h0 : (i 0 : ℕ) = j 0) (h1 : (i 1 : ℕ) = j 1) : i = j := by
  rw [eq_ix2 i, eq_ix2 j, Fin.ext h0, Fin.ext h1]

/-- The input block of region 0 at point `t`. -/
theorem iblk0_apply (c : Dev nD) (t : Fin cfg0.N) (R : Fin 256) (k : Fin 2048) :
    (iblk0 V c 0 t : Vec Ideal S256x2048 .bf16) (ix2 R k) = (V c main_v0 : Vec Ideal S12288x2048 .bf16) (ix2 (row0 t R) k) := by
  have h : (win0_0.rect t).emb (ix2 R k : S256x2048.Idx) = (ix2 (row0 t R) k : S12288x2048.Idx) :=
    ext2 ((win0_0.rect_emb_val t _ 0).trans (by rw [(index0 t).1.1]; rfl))
      ((win0_0.rect_emb_val t _ 1).trans (by rw [(index0 t).1.2]; exact (congrArg (· + k.val) (Nat.zero_mul _)).trans (Nat.zero_add _)))
  exact congrArg (V c main_v0 : Vec Ideal S12288x2048 .bf16) h

/-- A row of the input block of region 0 at point `t`. -/
theorem iblk0_row (c : Dev nD) (t : Fin cfg0.N) (R : Fin 256) :
    (fun k => (iblk0 V c 0 t : Vec Ideal S256x2048 .bf16) (ix2 R k))
      = fun k => (V c main_v0 : Vec Ideal S12288x2048 .bf16) (ix2 (row0 t R) k) :=
  funext fun k => iblk0_apply V c t R k

/-- Every row of the input is in range. -/
def RowsOk (X : Vec Ideal S12288x2048 .bf16) : Prop := ∀ R, RowOk fun k => X (ix2 R k)

/-- Every row of the input block is in range. -/
theorem iblk0_ok (c : Dev nD) (hX : RowsOk (V c main_v0)) (t : Fin cfg0.N) (R : Fin 256) :
    RowOk fun k => (iblk0 V c 0 t : Vec Ideal S256x2048 .bf16) (ix2 R k) := by
  rw [iblk0_row]; exact hX _

/-- What region 0 writes back of the codes at point `t`. -/
theorem flushed0_1 (c : Dev nD) (hX : RowsOk (V c main_v0)) (t : Fin cfg0.N) :
    (dat0 V c).flushed 1 t = ((cfg0.win 1).blk t).view.read (Elt Ideal) (codesArr (V c main_v0)) := by
  show (cfg0.win 1).cut (grid0.coords t) ((dat0 V c).after 1 t) = _
  rw [after0_1]
  funext y
  have hy : (win0_1.rect t).emb y = (ix2 (row0 t (y 0)) (y 1) : S12288x2048.Idx) :=
    ext2 ((win0_1.rect_emb_val t y 0).trans (by rw [(index0 t).2.1.1]; rfl))
      ((win0_1.rect_emb_val t y 1).trans (by rw [(index0 t).2.1.2]; exact (congrArg (· + (y 1).val) (Nat.zero_mul _)).trans (Nat.zero_add _)))
  exact ((out0_1_apply _ (iblk0_ok V c hX t) y).trans (congrArg (fun f => qcode f (y 1)) (iblk0_row V c t (y 0)))).trans
    (congrArg (codesArr (V c main_v0)) hy).symm

/-- What region 0 writes back of the rescaled codes at point `t`. -/
theorem flushed0_3 (c : Dev nD) (hX : RowsOk (V c main_v0)) (t : Fin cfg0.N) :
    (dat0 V c).flushed 3 t = ((cfg0.win 3).blk t).view.read (Elt Ideal) (xdArr (V c main_v0)) := by
  show (cfg0.win 3).cut (grid0.coords t) ((dat0 V c).after 3 t) = _
  rw [after0_3]
  funext y
  have hy : (win0_3.rect t).emb y = (ix2 (row0 t (y 0)) (y 1) : S12288x2048.Idx) :=
    ext2 ((win0_3.rect_emb_val t y 0).trans (by rw [(index0 t).2.2.2.1]; rfl))
      ((win0_3.rect_emb_val t y 1).trans (by rw [(index0 t).2.2.2.2]; exact (congrArg (· + (y 1).val) (Nat.zero_mul _)).trans (Nat.zero_add _)))
  exact ((out0_3_apply _ (iblk0_ok V c hX t) y).trans (congrArg (fun f => qxd f (y 1)) (iblk0_row V c t (y 0)))).trans
    (congrArg (xdArr (V c main_v0)) hy).symm

/-- What region 0 writes back of the scale bytes at point `t`. -/
theorem flushed0_2 (c : Dev nD) (hX : RowsOk (V c main_v0)) (t : Fin cfg0.N) :
    (dat0 V c).flushed 2 t = ((cfg0.win 2).blk t).view.read (Elt Ideal) (scalesArr (V c main_v0)) := by
  show (cfg0.win 2).cut (grid0.coords t) ((dat0 V c).after 2 t) = _
  rw [after0_2]
  funext y
  have hy : (win0_2.rect t).emb y = (ix2 (row0 t (y 0)) (y 1) : S12288x64.Idx) :=
    ext2 ((win0_2.rect_emb_val t y 0).trans (by rw [(index0 t).2.2.1.1]; rfl))
      ((win0_2.rect_emb_val t y 1).trans (by rw [(index0 t).2.2.1.2]; exact (congrArg (· + (y 1).val) (Nat.zero_mul _)).trans (Nat.zero_add _)))
  refine Eq.trans ?_ (congrArg (scalesArr (V c main_v0)) hy).symm
  refine ((congrArg (out0_2 (iblk0 V c 0 t)) (eq_ix2 (n0 := 256) (n1 := 64) y)).trans (out0_2_apply _ (iblk0_ok V c hX t) (y 0) (y 1))).trans ?_
  exact congrArg (fun f => BitVec.ofNat 8 (qfield f (y 1))) (iblk0_row V c t (y 0))

/-- The point of region 0 a row is written at. -/
def pt0 (R : Fin 12288) : Fin cfg0.N := ⟨R.val / 256, lt_of_lt_of_eq (by omega : R.val / 256 < 48) N_0.symm⟩

/-- An index is under the block at its own row's point, on both axes. -/
theorem under_row (a i n s : ℕ) (hi : a = i / s) (hs : 0 < s) (hn : n = s) : a * s ≤ i ∧ i < a * s + n := by
  subst hi hn
  exact ⟨Nat.div_mul_le_self i n, by rw [Nat.mul_comm]; have := Nat.div_add_mod i n; have := Nat.mod_lt i hs; omega⟩

/-- The codes region 0 leaves. -/
theorem arr0_1 (c : Dev nD) (hX : RowsOk (V c main_v0)) : (dat0 V c).arrAt 1 cfg0.N = codesArr (V c main_v0) := by
  refine (dat0 V c).arrAt_eq_of_cover 1 _ (fun t _ => flushed0_1 V c hX t) fun (i : S12288x2048.Idx) => ⟨pt0 (i 0), flush0_1 _, ?_⟩
  show i ∈ ((View.whole main_v1_0).slice (win0_1.rect (pt0 (i 0)))).set
  rw [View.set_slice_whole, Rect.mem_set_unit]
  have e := (index0 (pt0 (i 0))).2.1
  intro a
  fin_cases a
  · exact under_row _ _ 256 256 e.1 (by norm_num) rfl
  · exact under_row _ _ 2048 2048 (e.2.trans (Nat.div_eq_of_lt (i 1).isLt).symm) (by norm_num) rfl

/-- The scale bytes region 0 leaves. -/
theorem arr0_2 (c : Dev nD) (hX : RowsOk (V c main_v0)) : (dat0 V c).arrAt 2 cfg0.N = scalesArr (V c main_v0) := by
  refine (dat0 V c).arrAt_eq_of_cover 2 _ (fun t _ => flushed0_2 V c hX t) fun (i : S12288x64.Idx) => ⟨pt0 (i 0), flush0_2 _, ?_⟩
  show i ∈ ((View.whole main_v1_1).slice (win0_2.rect (pt0 (i 0)))).set
  rw [View.set_slice_whole, Rect.mem_set_unit]
  have e := (index0 (pt0 (i 0))).2.2.1
  intro a
  fin_cases a
  · exact under_row _ _ 256 256 e.1 (by norm_num) rfl
  · exact under_row _ _ 64 64 (e.2.trans (Nat.div_eq_of_lt (i 1).isLt).symm) (by norm_num) rfl

/-- The rescaled codes region 0 leaves. -/
theorem arr0_3 (c : Dev nD) (hX : RowsOk (V c main_v0)) : (dat0 V c).arrAt 3 cfg0.N = xdArr (V c main_v0) := by
  refine (dat0 V c).arrAt_eq_of_cover 3 _ (fun t _ => flushed0_3 V c hX t) fun (i : S12288x2048.Idx) => ⟨pt0 (i 0), flush0_3 _, ?_⟩
  show i ∈ ((View.whole main_v1_2).slice (win0_3.rect (pt0 (i 0)))).set
  rw [View.set_slice_whole, Rect.mem_set_unit]
  have e := (index0 (pt0 (i 0))).2.2.2
  intro a
  fin_cases a
  · exact under_row _ _ 256 256 e.1 (by norm_num) rfl
  · exact under_row _ _ 2048 2048 (e.2.trans (Nat.div_eq_of_lt (i 1).isLt).symm) (by norm_num) rfl

/-! ### Region 1: the weights times their scales -/

/-- The weights times their scales. -/
def wdArr (W : Vec Ideal S8192x2048 .fp8e4m3) (S : Vec Ideal S8192x64 .i8) : Vec Ideal S8192x2048 .bf16 :=
  fun i => W i * (((2 : ℝ) ^ (((S (ix2 (i 0) (grp (i 1))) : BitVec 8).toNat : ℤ) - 127) : ℝ) : EReal)

/-- Every weight scale is a code of a positive finite scale. -/
def ScalesOk (S : Vec Ideal S8192x64 .i8) : Prop :=
  ∀ R g, 1 ≤ (S (ix2 R g) : BitVec 8).toNat ∧ (S (ix2 R g) : BitVec 8).toNat ≤ 254

/-- The block indices of region 1's windows. -/
theorem index1 : ∀ t : Fin grid1.N,
    (win1_0.index t 0 = t.val ∧ win1_0.index t 1 = 0) ∧ (win1_1.index t 0 = t.val ∧ win1_1.index t 1 = 0)
    ∧ (win1_2.index t 0 = t.val ∧ win1_2.index t 1 = 0) := by
  decide +kernel

/-- A point of region 1's grid is below 32. -/
theorem lt1 (t : Fin grid1.N) : t.val < 32 := lt_of_lt_of_eq t.isLt N_1

/-- Row `R` of the block at point `t` is row `256 t + R` of the array. -/
def row1 (t : Fin grid1.N) (R : Fin 256) : Fin 8192 := ⟨t.val * 256 + R.val, by have := lt1 t; omega⟩

/-- The weight block of region 1 at point `t`. -/
theorem iblk1_0_apply (c : Dev nD) (t : Fin cfg1.N) (R : Fin 256) (k : Fin 2048) :
    (iblk1 V c 0 t : Vec Ideal S256x2048 .fp8e4m3) (ix2 R k) = (V c main_arg1 : Vec Ideal S8192x2048 .fp8e4m3) (ix2 (row1 t R) k) := by
  have h : (win1_0.rect t).emb (ix2 R k : S256x2048.Idx) = (ix2 (row1 t R) k : S8192x2048.Idx) :=
    ext2 ((win1_0.rect_emb_val t _ 0).trans (by rw [(index1 t).1.1]; rfl))
      ((win1_0.rect_emb_val t _ 1).trans (by rw [(index1 t).1.2]; exact (congrArg (· + k.val) (Nat.zero_mul _)).trans (Nat.zero_add _)))
  exact congrArg (V c main_arg1 : Vec Ideal S8192x2048 .fp8e4m3) h

/-- The scale block of region 1 at point `t`. -/
theorem iblk1_1_apply (c : Dev nD) (t : Fin cfg1.N) (R : Fin 256) (k : Fin 64) :
    (iblk1 V c 1 t : Vec Ideal S256x64 .i8) (ix2 R k) = (V c main_arg2 : Vec Ideal S8192x64 .i8) (ix2 (row1 t R) k) := by
  have h : (win1_1.rect t).emb (ix2 R k : S256x64.Idx) = (ix2 (row1 t R) k : S8192x64.Idx) :=
    ext2 ((win1_1.rect_emb_val t _ 0).trans (by rw [(index1 t).2.1.1]; rfl))
      ((win1_1.rect_emb_val t _ 1).trans (by rw [(index1 t).2.1.2]; exact (congrArg (· + k.val) (Nat.zero_mul _)).trans (Nat.zero_add _)))
  exact congrArg (V c main_arg2 : Vec Ideal S8192x64 .i8) h

/-- One block of region 1. -/
theorem out1_2_apply (x0 : Vec Ideal S256x2048 .fp8e4m3) (x1 : Vec Ideal S256x64 .i8) (R : Fin 256)
    (hs : ∀ g : Fin 64, 1 ≤ (x1 (ix2 R g) : BitVec 8).toNat ∧ (x1 (ix2 R g) : BitVec 8).toNat ≤ 254) (C : Fin 2048) :
    out1_2 x0 x1 (ix2 R C)
      = x0 (ix2 R C) * (((2 : ℝ) ^ (((x1 (ix2 R (grp C)) : BitVec 8).toNat : ℤ) - 127) : ℝ) : EReal) := by
  unfold out1_2
  rw [View.canon_unit_zero zero_start, View.ld_unit_zero zero_start, View.ld_unit_zero zero_start]
  exact widen_apply x1 x0 R hs C

/-- One block of region 1, in terms of the arrays. -/
theorem block1 (c : Dev nD) (hS : ScalesOk (V c main_arg2)) (t : Fin cfg1.N) (R : Fin 256) (C : Fin 2048) :
    out1_2 (iblk1 V c 0 t) (iblk1 V c 1 t) (ix2 R C) = wdArr (V c main_arg1) (V c main_arg2) (ix2 (row1 t R) C) := by
  rw [out1_2_apply _ _ _ (fun g => by rw [iblk1_1_apply]; exact hS _ g), iblk1_0_apply, iblk1_1_apply]
  rfl

/-- What region 1 writes back at point `t`. -/
theorem flushed1_2 (c : Dev nD) (hS : ScalesOk (V c main_arg2)) (t : Fin cfg1.N) :
    (dat1 V c).flushed 2 t = ((cfg1.win 2).blk t).view.read (Elt Ideal) (wdArr (V c main_arg1) (V c main_arg2)) := by
  show (cfg1.win 2).cut (grid1.coords t) ((dat1 V c).after 2 t) = _
  rw [after1_2]
  funext y
  have hy : (win1_2.rect t).emb y = (ix2 (row1 t (y 0)) (y 1) : S8192x2048.Idx) :=
    ext2 ((win1_2.rect_emb_val t y 0).trans (by rw [(index1 t).2.2.1]; rfl))
      ((win1_2.rect_emb_val t y 1).trans (by rw [(index1 t).2.2.2]; exact (congrArg (· + (y 1).val) (Nat.zero_mul _)).trans (Nat.zero_add _)))
  refine Eq.trans ?_ (congrArg (wdArr (V c main_arg1) (V c main_arg2)) hy).symm
  exact (congrArg (out1_2 (iblk1 V c 0 t) (iblk1 V c 1 t)) (eq_ix2 (n0 := 256) (n1 := 2048) y)).trans (block1 V c hS t (y 0) (y 1))

/-- The point of region 1 a row is written at. -/
def pt1 (R : Fin 8192) : Fin cfg1.N := ⟨R.val / 256, lt_of_lt_of_eq (by omega : R.val / 256 < 32) N_1.symm⟩

/-- The widened weights region 1 leaves. -/
theorem arr1_2 (c : Dev nD) (hS : ScalesOk (V c main_arg2)) :
    (dat1 V c).arrAt 2 cfg1.N = wdArr (V c main_arg1) (V c main_arg2) := by
  refine (dat1 V c).arrAt_eq_of_cover 2 _ (fun t _ => flushed1_2 V c hS t) fun (i : S8192x2048.Idx) => ⟨pt1 (i 0), flush1_2 _, ?_⟩
  show i ∈ ((View.whole main_v2).slice (win1_2.rect (pt1 (i 0)))).set
  rw [View.set_slice_whole, Rect.mem_set_unit]
  have e := (index1 (pt1 (i 0))).2.2
  intro a
  fin_cases a
  · exact under_row _ _ 256 256 e.1 (by norm_num) rfl
  · exact under_row _ _ 2048 2048 (e.2.trans (Nat.div_eq_of_lt (i 1).isLt).symm) (by norm_num) rfl

/-! ### Region 2: the product and the residual -/

/-- Rows of `A` against rows of `B`, plus the residual. -/
def prodArr (A : Vec Ideal S12288x2048 .bf16) (B : Vec Ideal S8192x2048 .bf16) (D : Vec Ideal S12288x8192 .bf16) :
    Vec Ideal S12288x8192 .bf16 :=
  fun i => (∑ x : Fin 2048, A (ix2 (i 0) x) * B (ix2 (i 1) x) : EReal) + D i

/-- The block indices of region 2's windows. -/
theorem index2 : ∀ t : Fin grid2.N,
    (win2_0.index t 0 = t.val / 8 ∧ win2_0.index t 1 = 0) ∧ (win2_1.index t 0 = t.val % 8 ∧ win2_1.index t 1 = 0)
    ∧ (win2_2.index t 0 = t.val / 8 ∧ win2_2.index t 1 = t.val % 8)
    ∧ (win2_3.index t 0 = t.val / 8 ∧ win2_3.index t 1 = t.val % 8) := by
  decide +kernel

/-- A point of region 2's grid is below 96. -/
theorem lt2 (t : Fin grid2.N) : t.val < 96 := lt_of_lt_of_eq t.isLt N_2

/-- Row `R` of the left block at point `t`, in the array. -/
def row2 (t : Fin grid2.N) (R : Fin 1024) : Fin 12288 := ⟨t.val / 8 * 1024 + R.val, by have := lt2 t; omega⟩

/-- Row `R` of the right block at point `t`, in the array. -/
def col2 (t : Fin grid2.N) (R : Fin 1024) : Fin 8192 := ⟨t.val % 8 * 1024 + R.val, by have := lt2 t; omega⟩

/-- The left block of region 2 at point `t`. -/
theorem iblk2_0_apply (c : Dev nD) (t : Fin cfg2.N) (R : Fin 1024) (k : Fin 2048) :
    (iblk2 V c 0 t : Vec Ideal S1024x2048 .bf16) (ix2 R k) = (V c main_v1_2 : Vec Ideal S12288x2048 .bf16) (ix2 (row2 t R) k) := by
  have h : (win2_0.rect t).emb (ix2 R k : S1024x2048.Idx) = (ix2 (row2 t R) k : S12288x2048.Idx) :=
    ext2 ((win2_0.rect_emb_val t _ 0).trans (by rw [(index2 t).1.1]; rfl))
      ((win2_0.rect_emb_val t _ 1).trans (by rw [(index2 t).1.2]; exact (congrArg (· + k.val) (Nat.zero_mul _)).trans (Nat.zero_add _)))
  exact congrArg (V c main_v1_2 : Vec Ideal S12288x2048 .bf16) h

/-- The right block of region 2 at point `t`. -/
theorem iblk2_1_apply (c : Dev nD) (t : Fin cfg2.N) (R : Fin 1024) (k : Fin 2048) :
    (iblk2 V c 1 t : Vec Ideal S1024x2048 .bf16) (ix2 R k) = (V c main_v2 : Vec Ideal S8192x2048 .bf16) (ix2 (col2 t R) k) := by
  have h : (win2_1.rect t).emb (ix2 R k : S1024x2048.Idx) = (ix2 (col2 t R) k : S8192x2048.Idx) :=
    ext2 ((win2_1.rect_emb_val t _ 0).trans (by rw [(index2 t).2.1.1]; rfl))
      ((win2_1.rect_emb_val t _ 1).trans (by rw [(index2 t).2.1.2]; exact (congrArg (· + k.val) (Nat.zero_mul _)).trans (Nat.zero_add _)))
  exact congrArg (V c main_v2 : Vec Ideal S8192x2048 .bf16) h

/-- The residual block of region 2 at point `t`. -/
theorem iblk2_2_apply (c : Dev nD) (t : Fin cfg2.N) (R C : Fin 1024) :
    (iblk2 V c 2 t : Vec Ideal S1024x1024 .bf16) (ix2 R C)
      = (V c main_v3 : Vec Ideal S12288x8192 .bf16) (ix2 (row2 t R) (col2 t C)) := by
  have h : (win2_2.rect t).emb (ix2 R C : S1024x1024.Idx) = (ix2 (row2 t R) (col2 t C) : S12288x8192.Idx) :=
    ext2 ((win2_2.rect_emb_val t _ 0).trans (by rw [(index2 t).2.2.1.1]; rfl))
      ((win2_2.rect_emb_val t _ 1).trans (by rw [(index2 t).2.2.1.2]; rfl))
  exact congrArg (V c main_v3 : Vec Ideal S12288x8192 .bf16) h

/-- One block of region 2. -/
theorem out2_3_apply (x0 x1 : Vec Ideal S1024x2048 .bf16) (x2 : Vec Ideal S1024x1024 .bf16) (R C : Fin 1024) :
    out2_3 x0 x1 x2 (ix2 R C) = (∑ x : Fin 2048, x0 (ix2 R x) * x1 (ix2 C x) : EReal) + x2 (ix2 R C) := by
  unfold out2_3
  rw [View.canon_unit_zero zero_start, View.ld_unit_zero zero_start, View.ld_unit_zero zero_start, View.ld_unit_zero zero_start]
  exact prod_apply x0 x1 x2 R C

/-- One block of region 2, in terms of the arrays. -/
theorem block2 (c : Dev nD) (t : Fin cfg2.N) (R C : Fin 1024) :
    out2_3 (iblk2 V c 0 t) (iblk2 V c 1 t) (iblk2 V c 2 t) (ix2 R C)
      = prodArr (V c main_v1_2) (V c main_v2) (V c main_v3) (ix2 (row2 t R) (col2 t C)) := by
  rw [out2_3_apply, iblk2_2_apply]
  simp only [iblk2_0_apply, iblk2_1_apply]
  rfl

/-- What region 2 writes back at point `t`. -/
theorem flushed2_3 (c : Dev nD) (t : Fin cfg2.N) :
    (dat2 V c).flushed 3 t
      = ((cfg2.win 3).blk t).view.read (Elt Ideal) (prodArr (V c main_v1_2) (V c main_v2) (V c main_v3)) := by
  show (cfg2.win 3).cut (grid2.coords t) ((dat2 V c).after 3 t) = _
  rw [after2_3]
  funext y
  have hy : (win2_3.rect t).emb y = (ix2 (row2 t (y 0)) (col2 t (y 1)) : S12288x8192.Idx) :=
    ext2 ((win2_3.rect_emb_val t y 0).trans (by rw [(index2 t).2.2.2.1]; rfl))
      ((win2_3.rect_emb_val t y 1).trans (by rw [(index2 t).2.2.2.2]; rfl))
  refine Eq.trans ?_ (congrArg (prodArr (V c main_v1_2) (V c main_v2) (V c main_v3)) hy).symm
  exact (congrArg (out2_3 (iblk2 V c 0 t) (iblk2 V c 1 t) (iblk2 V c 2 t)) (eq_ix2 (n0 := 1024) (n1 := 1024) y)).trans
    (block2 V c t (y 0) (y 1))

/-- The point of region 2 an index is written at. -/
def pt2 (R : Fin 12288) (C : Fin 8192) : Fin cfg2.N :=
  ⟨R.val / 1024 * 8 + C.val / 1024, lt_of_lt_of_eq (by omega : R.val / 1024 * 8 + C.val / 1024 < 96) N_2.symm⟩

/-- The product region 2 leaves. -/
theorem arr2_3 (c : Dev nD) : (dat2 V c).arrAt 3 cfg2.N = prodArr (V c main_v1_2) (V c main_v2) (V c main_v3) := by
  refine (dat2 V c).arrAt_eq_of_cover 3 _ (fun t _ => flushed2_3 V c t) fun (i : S12288x8192.Idx) => ⟨pt2 (i 0) (i 1), flush2_3 _, ?_⟩
  show i ∈ ((View.whole main_v4).slice (win2_3.rect (pt2 (i 0) (i 1)))).set
  rw [View.set_slice_whole, Rect.mem_set_unit]
  have e := (index2 (pt2 (i 0) (i 1))).2.2.2
  have h0 : (pt2 (i 0) (i 1)).val / 8 = (i 0).val / 1024 := by
    have := (i 1).isLt; show (_ * 8 + _) / 8 = _; have h : (i 1).val / 1024 < 8 := by exact Nat.div_lt_of_lt_mul this
    omega
  have h1 : (pt2 (i 0) (i 1)).val % 8 = (i 1).val / 1024 := by
    have := (i 1).isLt; show (_ * 8 + _) % 8 = _; have h : (i 1).val / 1024 < 8 := by exact Nat.div_lt_of_lt_mul this
    omega
  intro a
  fin_cases a
  · exact under_row _ _ 1024 1024 (e.1.trans h0) (by norm_num) rfl
  · exact under_row _ _ 1024 1024 (e.2.trans h1) (by norm_num) rfl

end Cert.Mx
-- ==== Proof.KernelRun.lean ====
/-
  The kernel's whole run: what its three result arrays hold at the end, in terms of its argument arrays.
-/
module

public import proofs.«01_k».proof.Proof.Arrays

@[expose] public section

set_option maxRecDepth 16384

noncomputable section

namespace Cert.Mx

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable (m : (ℓ : Loc nD τ sig) → Buf (Elt Ideal) ℓ) (ρ : Dev nD → PrngReg)

/-! ### The arrays the regions find and leave -/

/-- The activations as rows. -/
def rows (X : Vec Ideal S2x6144x2048 .bf16) : Vec Ideal S12288x2048 .bf16 := shapeCast S12288x2048 X shapeCasts_S2x6144x2048_S12288x2048

/-- The residual as rows. -/
def resRows (D : Vec Ideal S2x6144x8192 .bf16) : Vec Ideal S12288x8192 .bf16 := shapeCast S12288x8192 D shapeCasts_S2x6144x8192_S12288x8192

/-- Region 0 finds the activations as rows. -/
theorem V1_v0 (c : Dev nD) : V1 m ρ c main_v0 = rows (m ((c : Thread nD τ).loc main_arg0)) := by
  show StableHlo.after hostOps0 (W0 m ρ c) (Proc.devRef .tc main_v0) = _
  unfold hostOps0
  after_results
  rfl

/-- Region 1 finds the weights as launched. -/
theorem V2_arg1 (c : Dev nD) : V2 m ρ c main_arg1 = m ((c : Thread nD τ).loc main_arg1) := W2_args m ρ c main_arg1 (by decide)

/-- Region 1 finds the weight scales as launched. -/
theorem V2_arg2 (c : Dev nD) : V2 m ρ c main_arg2 = m ((c : Thread nD τ).loc main_arg2) := W2_args m ρ c main_arg2 (by decide)

/-- Region 2 finds the residual as rows. -/
theorem V4_v3 (c : Dev nD) : V4 m ρ c main_v3 = resRows (m ((c : Thread nD τ).loc main_arg3)) := by
  show StableHlo.after hostOps2 (W3 m ρ c) (Proc.devRef .tc main_v3) = _
  unfold hostOps2
  after_results
  exact congrArg resRows (W3_args m ρ c main_arg3 (by decide))

/-- Region 2 finds the rescaled codes as region 0 left them. -/
theorem V4_v1_2 (c : Dev nD) : V4 m ρ c main_v1_2 = (dat0 (V1 m ρ) c).arrAt 3 cfg0.N :=
  (W4_of m ρ c main_v1_2 (by decide)).trans ((W3_of_ne m ρ c main_v1_2 (by decide)).trans (W2_arr m ρ c 3))

/-- Region 2 finds the widened weights as region 1 left them. -/
theorem V4_v2 (c : Dev nD) : V4 m ρ c main_v2 = (dat1 (V2 m ρ) c).arrAt 2 cfg1.N :=
  (W4_of m ρ c main_v2 (by decide)).trans (W3_arr m ρ c 2)

/-- The codes at the end of region 2 are those region 0 left. -/
theorem V5_v1_0 (c : Dev nD) : V5 m ρ c main_v1_0 = (dat0 (V1 m ρ) c).arrAt 1 cfg0.N :=
  (W5_of_ne m ρ c main_v1_0 (by decide)).trans
    ((W4_of m ρ c main_v1_0 (by decide)).trans ((W3_of_ne m ρ c main_v1_0 (by decide)).trans (W2_arr m ρ c 1)))

/-- The scale bytes at the end of region 2 are those region 0 left. -/
theorem V5_v1_1 (c : Dev nD) : V5 m ρ c main_v1_1 = (dat0 (V1 m ρ) c).arrAt 2 cfg0.N :=
  (W5_of_ne m ρ c main_v1_1 (by decide)).trans
    ((W4_of m ρ c main_v1_1 (by decide)).trans ((W3_of_ne m ρ c main_v1_1 (by decide)).trans (W2_arr m ρ c 2)))

/-! ### The results as functions of the arguments -/

/-- The product with its residual, as the result is shaped. -/
def yRes (X : Vec Ideal S2x6144x2048 .bf16) (W : Vec Ideal S8192x2048 .fp8e4m3) (S : Vec Ideal S8192x64 .i8)
    (D : Vec Ideal S2x6144x8192 .bf16) : Vec Ideal S2x6144x8192 .bf16 :=
  shapeCast S2x6144x8192 (prodArr (xdArr (rows X)) (wdArr W S) (resRows D)) shapeCasts_S12288x8192_S2x6144x8192

/-- The codes, as the result is shaped. -/
def codesRes (X : Vec Ideal S2x6144x2048 .bf16) : Vec Ideal S2x6144x2048 .fp8e4m3 :=
  shapeCast S2x6144x2048 (codesArr (rows X)) shapeCasts_S12288x2048_S2x6144x2048

/-- The scale bytes, as the result is shaped. -/
def scalesRes (X : Vec Ideal S2x6144x2048 .bf16) : Vec Ideal S2x6144x64 .i8 :=
  shapeCast S2x6144x64 (scalesArr (rows X)) shapeCasts_S12288x64_S2x6144x64

/-- The arguments are in the range the claim asks for. -/
def ArgsOk : Prop := ∀ c : Dev nD, RowsOk (rows (m ((c : Thread nD τ).loc main_arg0))) ∧ ScalesOk (m ((c : Thread nD τ).loc main_arg2))

variable {m} in
/-- The first result. -/
theorem W6_v5 (h : ArgsOk m) (c : Dev nD) : W6 m ρ c (Proc.devRef .tc main_v5)
    = yRes (m ((c : Thread nD τ).loc main_arg0)) (m ((c : Thread nD τ).loc main_arg1)) (m ((c : Thread nD τ).loc main_arg2))
        (m ((c : Thread nD τ).loc main_arg3)) := by
  show StableHlo.after hostOps3 (W5 m ρ c) (Proc.devRef .tc main_v5) = _
  unfold hostOps3
  after_results
  refine congrArg (fun A : Vec Ideal S12288x8192 .bf16 => shapeCast S2x6144x8192 A shapeCasts_S12288x8192_S2x6144x8192) ?_
  refine (W5_arr m ρ c 3).trans ((arr2_3 (V4 m ρ) c).trans ?_)
  rw [V4_v3, V4_v1_2, V4_v2, arr0_3 _ c (by rw [V1_v0]; exact (h c).1), arr1_2 _ c (by rw [V2_arg2]; exact (h c).2), V1_v0, V2_arg1, V2_arg2]

variable {m} in
/-- The second result. -/
theorem W6_v6 (h : ArgsOk m) (c : Dev nD) : W6 m ρ c (Proc.devRef .tc main_v6) = codesRes (m ((c : Thread nD τ).loc main_arg0)) := by
  show StableHlo.after hostOps3 (W5 m ρ c) (Proc.devRef .tc main_v6) = _
  unfold hostOps3
  after_results
  refine congrArg (fun A : Vec Ideal S12288x2048 .fp8e4m3 => shapeCast S2x6144x2048 A shapeCasts_S12288x2048_S2x6144x2048) ?_
  refine (V5_v1_0 m ρ c).trans ?_
  rw [arr0_1 _ c (by rw [V1_v0]; exact (h c).1), V1_v0]

variable {m} in
/-- The third result. -/
theorem W6_v7 (h : ArgsOk m) (c : Dev nD) : W6 m ρ c (Proc.devRef .tc main_v7) = scalesRes (m ((c : Thread nD τ).loc main_arg0)) := by
  show StableHlo.after hostOps3 (W5 m ρ c) (Proc.devRef .tc main_v7) = _
  unfold hostOps3
  after_results
  refine congrArg (fun A : Vec Ideal S12288x64 .i8 => shapeCast S2x6144x64 A shapeCasts_S12288x64_S2x6144x64) ?_
  refine (V5_v1_1 m ρ c).trans ?_
  rw [arr0_2 _ c (by rw [V1_v0]; exact (h c).1), V1_v0]

/-! ### The run -/

-- the launch theorem's implicit arguments are found by unifying its conclusion with this one
set_option backward.isDefEq.respectTransparency.types false in
/-- Every execution of the kernel ends, with its three results at what the last host operations leave and its arguments
    as launched: the launch over the segments, the last thread state read against the final memory. -/
theorem kernel_run : θ_run (defs (F := Ideal)) (onTc (τ := τ) (main (F := Ideal))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_v6) = W6 m ρ c (Proc.devRef .tc main_v6)
      ∧ r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v5 (by decide)), h c _ (mem_uc main_v6 (by decide)), h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

variable {m} in
/-- Every execution of the kernel from arguments in range ends with its three results at `yRes`, `codesRes`, `scalesRes`
    of its arguments, and its arguments as launched. -/
theorem kernel_values (h : ArgsOk m) :
    θ_run (defs (F := Ideal)) (onTc (τ := τ) (main (F := Ideal))) ⟨m, fun _ => 0, ρ⟩ (fun r => ∀ c : Dev nD,
      r.2.mem ((c.tc : Thread nD τ).loc main_v5) = yRes (m ((c : Thread nD τ).loc main_arg0)) (m ((c : Thread nD τ).loc main_arg1))
        (m ((c : Thread nD τ).loc main_arg2)) (m ((c : Thread nD τ).loc main_arg3))
      ∧ r.2.mem ((c.tc : Thread nD τ).loc main_v6) = codesRes (m ((c : Thread nD τ).loc main_arg0))
      ∧ r.2.mem ((c.tc : Thread nD τ).loc main_v7) = scalesRes (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ hr c => ⟨(hr c).1.trans (W6_v5 ρ h c), (hr c).2.1.trans (W6_v6 ρ h c), (hr c).2.2.1.trans (W6_v7 ρ h c), (hr c).2.2.2⟩)
    (kernel_run m ρ)

end Cert.Mx
-- ==== Proof.RefRun.lean ====
/-
  The reference's whole run: what its three result arrays hold at the end, in terms of its argument arrays.
-/
module

public import proofs.«01_k».proof.Proof.RefBody
public import proofs.«01_k».proof.Proof.KernelRun

@[expose] public section

set_option maxRecDepth 16384

noncomputable section

namespace Cert.Rf

open Idealize.ShloMosaic Idealize.ShloMosaic.TcCoe Cert.ReferenceIdeal Cert.ReferenceIdeal.Gen
open Cert.Mx (ext2 zero_start codesArr scalesArr xdArr wdArr prodArr)
open Idealize.SL Idealize.SL.Sem
open Idealize.ShloMosaic.StableHlo (after_cons after_nil)

variable (m : (ℓ : Loc nD τ sig) → Buf (Elt Ideal) ℓ) (ρ : Dev nD → PrngReg)

/-! ### The windows are whole arrays -/

/-- Every window is at block index zero. -/
theorem index_zero : ∀ t : Fin grid0.N, (∀ a : Fin 2, win0_0.index t a = 0) ∧ (∀ a : Fin 2, win0_1.index t a = 0) ∧ (∀ a : Fin 2, win0_2.index t a = 0)
    ∧ (∀ a : Fin 2, win0_3.index t a = 0) ∧ (∀ a : Fin 2, win0_4.index t a = 0) ∧ (∀ a : Fin 2, win0_5.index t a = 0)
    ∧ (∀ a : Fin 2, win0_6.index t a = 0) := by
  decide +kernel

/-- The activations' block is the whole array. -/
theorem iblk_0 (c : Dev nD) (t : Fin cfg0.N) : (iblk m c 0 t : Vec Ideal S12288x2048 .bf16) = V m c main_v0 := by
  funext y
  exact congrArg (V m c main_v0 : Vec Ideal S12288x2048 .bf16) (ext2 (i := (win0_0.rect t).emb y) (j := y)
    (win0_0.rect_emb_val_of_index_zero t 0 ((index_zero t).1 0) y) (win0_0.rect_emb_val_of_index_zero t 1 ((index_zero t).1 1) y))

/-- The weights' block is the whole array. -/
theorem iblk_1 (c : Dev nD) (t : Fin cfg0.N) : (iblk m c 1 t : Vec Ideal S8192x2048 .fp8e4m3) = V m c main_arg1 := by
  funext y
  exact congrArg (V m c main_arg1 : Vec Ideal S8192x2048 .fp8e4m3) (ext2 (i := (win0_1.rect t).emb y) (j := y)
    (win0_1.rect_emb_val_of_index_zero t 0 ((index_zero t).2.1 0) y) (win0_1.rect_emb_val_of_index_zero t 1 ((index_zero t).2.1 1) y))

/-- The weight scales' block is the whole array. -/
theorem iblk_2 (c : Dev nD) (t : Fin cfg0.N) : (iblk m c 2 t : Vec Ideal S8192x64 .i8) = V m c main_arg2 := by
  funext y
  exact congrArg (V m c main_arg2 : Vec Ideal S8192x64 .i8) (ext2 (i := (win0_2.rect t).emb y) (j := y)
    (win0_2.rect_emb_val_of_index_zero t 0 ((index_zero t).2.2.1 0) y) (win0_2.rect_emb_val_of_index_zero t 1 ((index_zero t).2.2.1 1) y))

/-- The residual's block is the whole array. -/
theorem iblk_3 (c : Dev nD) (t : Fin cfg0.N) : (iblk m c 3 t : Vec Ideal S12288x8192 .bf16) = V m c main_v1 := by
  funext y
  exact congrArg (V m c main_v1 : Vec Ideal S12288x8192 .bf16) (ext2 (i := (win0_3.rect t).emb y) (j := y)
    (win0_3.rect_emb_val_of_index_zero t 0 ((index_zero t).2.2.2.1 0) y) (win0_3.rect_emb_val_of_index_zero t 1 ((index_zero t).2.2.2.1 1) y))

/-! ### The region's arrays -/

/-- The body's product on rows in range. -/
theorem out4_eq (X : Vec Ideal S12288x2048 .bf16) (hX : RowsOk X) (W : Vec Ideal S8192x2048 .fp8e4m3) (S : Vec Ideal S8192x64 .i8)
    (D : Vec Ideal S12288x8192 .bf16) : out0_4 X W S D = prodArr (xdArr X) (wdArr W S) D := by
  unfold out0_4
  rw [View.canon_unit_zero zero_start, View.ld_unit_zero zero_start, View.ld_unit_zero zero_start, View.ld_unit_zero zero_start,
    View.ld_unit_zero zero_start]
  funext i
  rw [eq_ix2 i]
  exact pay1_apply X hX W S D (i 0) (i 1)

/-- The body's codes on rows in range. -/
theorem out5_eq (X : Vec Ideal S12288x2048 .bf16) (hX : RowsOk X) (W : Vec Ideal S8192x2048 .fp8e4m3) (S : Vec Ideal S8192x64 .i8)
    (D : Vec Ideal S12288x8192 .bf16) : out0_5 X W S D = codesArr X := by
  unfold out0_5
  rw [View.canon_unit_zero zero_start, View.ld_unit_zero zero_start]
  funext i
  rw [eq_ix2 i]
  exact pay6_apply X hX (i 0) (i 1)

/-- The body's scale bytes on rows in range. -/
theorem out6_eq (X : Vec Ideal S12288x2048 .bf16) (hX : RowsOk X) (W : Vec Ideal S8192x2048 .fp8e4m3) (S : Vec Ideal S8192x64 .i8)
    (D : Vec Ideal S12288x8192 .bf16) : out0_6 X W S D = scalesArr X := by
  unfold out0_6
  rw [View.canon_unit_zero zero_start, View.ld_unit_zero zero_start]
  funext i
  rw [eq_ix2 i]
  exact pay5_apply X hX (i 0) (i 1)

/-- An index is under a block at zero of the array's own size. -/
theorem under_zero (a i n s : ℕ) (ha : a = 0) (hn : n = s) (hi : i < s) : a * s ≤ i ∧ i < a * s + n := by
  subst ha hn; omega

/-- The product the region leaves. -/
theorem arr_4 (c : Dev nD) (hX : RowsOk (V m c main_v0)) :
    (dats m 0 c).arrAt 4 cfg0.N = prodArr (xdArr (V m c main_v0)) (wdArr (V m c main_arg1) (V m c main_arg2)) (V m c main_v1) := by
  refine (dats m 0 c).arrAt_eq_of_cover 4 _ (fun t _ => ?_) fun (i : S12288x8192.Idx) => ⟨t0_0, flush0_4 _, ?_⟩
  · show (cfg0.win 4).cut (grid0.coords t) ((dats m 0 c).after 4 t) = _
    rw [after0_4]
    funext y
    have hy : (win0_4.rect t).emb y = (y : S12288x8192.Idx) :=
      ext2 (win0_4.rect_emb_val_of_index_zero t 0 ((index_zero t).2.2.2.2.1 0) y) (win0_4.rect_emb_val_of_index_zero t 1 ((index_zero t).2.2.2.2.1 1) y)
    have e : out0_4 (iblk m c 0 t) (iblk m c 1 t) (iblk m c 2 t) (iblk m c 3 t)
        = prodArr (xdArr (V m c main_v0)) (wdArr (V m c main_arg1) (V m c main_arg2)) (V m c main_v1) :=
      (congr (congr (congr (congrArg out0_4 (iblk_0 m c t)) (iblk_1 m c t)) (iblk_2 m c t)) (iblk_3 m c t)).trans (out4_eq _ hX _ _ _)
    exact (congrFun e y).trans (congrArg (prodArr (xdArr (V m c main_v0)) (wdArr (V m c main_arg1) (V m c main_arg2)) (V m c main_v1)) hy).symm
  · show i ∈ ((View.whole main_v2_0).slice (win0_4.rect t0_0)).set
    rw [View.set_slice_whole, Rect.mem_set_unit]
    intro a
    fin_cases a
    · exact under_zero _ _ 12288 12288 ((index_zero t0_0).2.2.2.2.1 0) rfl (i 0).isLt
    · exact under_zero _ _ 8192 8192 ((index_zero t0_0).2.2.2.2.1 1) rfl (i 1).isLt

/-- The codes the region leaves. -/
theorem arr_5 (c : Dev nD) (hX : RowsOk (V m c main_v0)) : (dats m 0 c).arrAt 5 cfg0.N = codesArr (V m c main_v0) := by
  refine (dats m 0 c).arrAt_eq_of_cover 5 _ (fun t _ => ?_) fun (i : S12288x2048.Idx) => ⟨t0_0, flush0_5 _, ?_⟩
  · show (cfg0.win 5).cut (grid0.coords t) ((dats m 0 c).after 5 t) = _
    rw [after0_5]
    funext y
    have hy : (win0_5.rect t).emb y = (y : S12288x2048.Idx) :=
      ext2 (win0_5.rect_emb_val_of_index_zero t 0 ((index_zero t).2.2.2.2.2.1 0) y) (win0_5.rect_emb_val_of_index_zero t 1 ((index_zero t).2.2.2.2.2.1 1) y)
    have e : out0_5 (iblk m c 0 t) (iblk m c 1 t) (iblk m c 2 t) (iblk m c 3 t) = codesArr (V m c main_v0) :=
      (congr (congr (congr (congrArg out0_5 (iblk_0 m c t)) (iblk_1 m c t)) (iblk_2 m c t)) (iblk_3 m c t)).trans (out5_eq _ hX _ _ _)
    exact (congrFun e y).trans (congrArg (codesArr (V m c main_v0)) hy).symm
  · show i ∈ ((View.whole main_v2_1).slice (win0_5.rect t0_0)).set
    rw [View.set_slice_whole, Rect.mem_set_unit]
    intro a
    fin_cases a
    · exact under_zero _ _ 12288 12288 ((index_zero t0_0).2.2.2.2.2.1 0) rfl (i 0).isLt
    · exact under_zero _ _ 2048 2048 ((index_zero t0_0).2.2.2.2.2.1 1) rfl (i 1).isLt

/-- The scale bytes the region leaves. -/
theorem arr_6 (c : Dev nD) (hX : RowsOk (V m c main_v0)) : (dats m 0 c).arrAt 6 cfg0.N = scalesArr (V m c main_v0) := by
  refine (dats m 0 c).arrAt_eq_of_cover 6 _ (fun t _ => ?_) fun (i : S12288x64.Idx) => ⟨t0_0, flush0_6 _, ?_⟩
  · show (cfg0.win 6).cut (grid0.coords t) ((dats m 0 c).after 6 t) = _
    rw [after0_6]
    funext y
    have hy : (win0_6.rect t).emb y = (y : S12288x64.Idx) :=
      ext2 (win0_6.rect_emb_val_of_index_zero t 0 ((index_zero t).2.2.2.2.2.2 0) y) (win0_6.rect_emb_val_of_index_zero t 1 ((index_zero t).2.2.2.2.2.2 1) y)
    have e : out0_6 (iblk m c 0 t) (iblk m c 1 t) (iblk m c 2 t) (iblk m c 3 t) = scalesArr (V m c main_v0) :=
      (congr (congr (congr (congrArg out0_6 (iblk_0 m c t)) (iblk_1 m c t)) (iblk_2 m c t)) (iblk_3 m c t)).trans (out6_eq _ hX _ _ _)
    exact (congrFun e y).trans (congrArg (scalesArr (V m c main_v0)) hy).symm
  · show i ∈ ((View.whole main_v2_2).slice (win0_6.rect t0_0)).set
    rw [View.set_slice_whole, Rect.mem_set_unit]
    intro a
    fin_cases a
    · exact under_zero _ _ 12288 12288 ((index_zero t0_0).2.2.2.2.2.2 0) rfl (i 0).isLt
    · exact under_zero _ _ 64 64 ((index_zero t0_0).2.2.2.2.2.2 1) rfl (i 1).isLt

/-! ### The run -/

/-- The region finds the activations as rows. -/
theorem V_v0 (c : Dev nD) : V m c main_v0 = Mx.rows (m ((c : Thread nD τ).loc main_arg0)) := by
  show StableHlo.after (List.flatten [hostOps0]) (fun b => m (c, b)) (Proc.devRef .tc main_v0) = _
  simp only [List.flatten_cons, List.flatten_nil, List.append_nil]
  unfold hostOps0
  after_results
  rfl

/-- The region finds the residual as rows. -/
theorem V_v1 (c : Dev nD) : V m c main_v1 = Mx.resRows (m ((c : Thread nD τ).loc main_arg3)) := by
  show StableHlo.after (List.flatten [hostOps0]) (fun b => m (c, b)) (Proc.devRef .tc main_v1) = _
  simp only [List.flatten_cons, List.flatten_nil, List.append_nil]
  unfold hostOps0
  after_results
  rfl

/-- The first result: the product reshaped. -/
theorem tail_v3 (c : Dev nD) (hX : RowsOk (Mx.rows (m ((c : Thread nD τ).loc main_arg0)))) :
    Pipeline.afterTail₀ cfgs (dats m) 0 (V0 m) [hostOps1] c main_v3
      = Mx.yRes (m ((c : Thread nD τ).loc main_arg0)) (m ((c : Thread nD τ).loc main_arg1)) (m ((c : Thread nD τ).loc main_arg2))
          (m ((c : Thread nD τ).loc main_arg3)) := by
  unfold Pipeline.afterTail₀
  simp only [List.flatten_cons, List.flatten_nil, List.append_nil]
  unfold hostOps1
  after_results
  refine congrArg (fun A : Vec Ideal S12288x8192 .bf16 => shapeCast S2x6144x8192 A shapeCasts_S12288x8192_S2x6144x8192) ?_
  refine (Pipeline.withArrays_arr spec0 launch0.win.arr_inj c _ _ 4).trans ((arr_4 m c (by rw [V_v0]; exact hX)).trans ?_)
  rw [V_v0, V_v1, V_main_arg1, V_main_arg2]

/-- The second result: the codes reshaped. -/
theorem tail_v4 (c : Dev nD) (hX : RowsOk (Mx.rows (m ((c : Thread nD τ).loc main_arg0)))) :
    Pipeline.afterTail₀ cfgs (dats m) 0 (V0 m) [hostOps1] c main_v4 = Mx.codesRes (m ((c : Thread nD τ).loc main_arg0)) := by
  unfold Pipeline.afterTail₀
  simp only [List.flatten_cons, List.flatten_nil, List.append_nil]
  unfold hostOps1
  after_results
  refine congrArg (fun A : Vec Ideal S12288x2048 .fp8e4m3 => shapeCast S2x6144x2048 A shapeCasts_S12288x2048_S2x6144x2048) ?_
  refine (Pipeline.withArrays_arr spec0 launch0.win.arr_inj c _ _ 5).trans ((arr_5 m c (by rw [V_v0]; exact hX)).trans ?_)
  rw [V_v0]

/-- The third result: the scale bytes reshaped. -/
theorem tail_v5 (c : Dev nD) (hX : RowsOk (Mx.rows (m ((c : Thread nD τ).loc main_arg0)))) :
    Pipeline.afterTail₀ cfgs (dats m) 0 (V0 m) [hostOps1] c main_v5 = Mx.scalesRes (m ((c : Thread nD τ).loc main_arg0)) := by
  unfold Pipeline.afterTail₀
  simp only [List.flatten_cons, List.flatten_nil, List.append_nil]
  unfold hostOps1
  after_results
  refine congrArg (fun A : Vec Ideal S12288x64 .i8 => shapeCast S2x6144x64 A shapeCasts_S12288x64_S2x6144x64) ?_
  refine (Pipeline.withArrays_arr spec0 launch0.win.arr_inj c _ _ 6).trans ((arr_6 m c (by rw [V_v0]; exact hX)).trans ?_)
  rw [V_v0]

/-- Every execution of the reference from arguments in range ends with its three results at `yRes`, `codesRes`, `scalesRes`
    of its arguments, and its arguments as launched. -/
theorem reference_values (hX : ∀ c : Dev nD, RowsOk (Mx.rows (m ((c : Thread nD τ).loc main_arg0)))) :
    θ_run (defs (F := Ideal)) (onTc (τ := τ) (main (F := Ideal))) ⟨m, fun _ => 0, ρ⟩ (fun r => ∀ c : Dev nD,
      r.2.mem ((c.tc : Thread nD τ).loc main_v3) = Mx.yRes (m ((c : Thread nD τ).loc main_arg0)) (m ((c : Thread nD τ).loc main_arg1))
        (m ((c : Thread nD τ).loc main_arg2)) (m ((c : Thread nD τ).loc main_arg3))
      ∧ r.2.mem ((c.tc : Thread nD τ).loc main_v4) = Mx.codesRes (m ((c : Thread nD τ).loc main_arg0))
      ∧ r.2.mem ((c.tc : Thread nD τ).loc main_v5) = Mx.scalesRes (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (tail_v3 m c (hX c)),
     ((h c).2 main_v4 (Pipeline.mem_restRefs_of main_v4 (by decide) (by decide))).trans (tail_v4 m c (hX c)),
     ((h c).2 main_v5 (Pipeline.mem_restRefs_of main_v5 (by decide) (by decide))).trans (tail_v5 m c (hX c)),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c)⟩) (run_main m ρ)

end Cert.Rf
-- ==== Proof.Precondition.lean ====
/-
  What the precondition says of the arguments.
-/
module

public import proofs.«01_k».proof.Proof.RefRun
public import proofs.«01_k».proof.Proof.Gen.Pre_scales_in_range
public import Idealize.ShloMosaic.Lib.ReduceAll

@[expose] public section

set_option maxRecDepth 16384

noncomputable section

namespace Cert.Mx

open Idealize.ShloMosaic Cert.Pre_scales_in_range Cert.Pre_scales_in_range.Facts

/-- The group maxima the precondition reads. -/
def preMax (x : FVec Ideal S2x6144x2048 .bf16) : FVec Ideal S2x6144x64 .f32 :=
  Host.reduce FloatOps.maximumf
    (shapeCast S2x6144x64x32 (Host.absf (extf .f32 x bitsLt_bf16_f32)) shapeCasts_S2x6144x2048_S2x6144x64x32)
    (constant S_ .f32 0xFF800000#32) reducesTo_S2x6144x64x32_S2x6144x64_d3 h_S_

/-- They are the group maxima of the rows. -/
theorem preMax_apply (x : FVec Ideal S2x6144x2048 .bf16) (a : Fin 2) (b : Fin 6144) (g : Fin 64) :
    preMax x (ix3 a b g) = rowMax (fun k => x (ix3 a b k)) g := by
  pointwise [preMax]
  rw [Rf.ofBits_neg_inf]
  unfold rowMax mag
  simp only [Nat.mul_comm g.val 32]
  rfl

/-- A row of the activations. -/
theorem rows_apply (x : FVec Ideal S2x6144x2048 .bf16) (R : Fin 12288) (k : Fin 2048) :
    rows x (ix2 R k) = x (ix3 ⟨R.val / 6144, by omega⟩ ⟨R.val % 6144, by omega⟩ k) := by
  pointwise [rows]

/-- A weight scale the precondition admits is between 1 and 254. -/
theorem scale_word (b : BitVec 8)
    (h : IntOp.andi (IntOp.cmpi .sge (BitVec.setWidth 32 b) 1#32) (IntOp.cmpi .sle (BitVec.setWidth 32 b) 254#32) = 1#1) :
    1 ≤ b.toNat ∧ b.toNat ≤ 254 := by
  revert b; decide +kernel

/-- A group maximum the precondition admits is in range. -/
theorem inRange_word (v : EReal)
    (h : IntOp.ori (Ideal.cmp .oeq v (Ideal.ofBits .f32 0x00000000#32))
      (IntOp.andi (Ideal.cmp .oge v (Ideal.ofBits .f32 0x04E00000#32)) (Ideal.cmp .ole v (Ideal.ofBits .f32 0x7F7F0000#32))) = 1#1) :
    InRange v := by
  have e0 : Ideal.ofBits .f32 0x00000000#32 = 0 := by simp [Ideal.ofBits, Ideal.ieee]
  unfold InRange
  by_cases h0 : v = 0
  · exact .inl h0
  · refine .inr ?_
    rw [e0] at h
    have c0 : Ideal.cmp .oeq v 0 = 0#1 := by simp [Ideal.cmp, h0]
    rw [c0] at h
    by_cases h1 : Ideal.ofBits .f32 0x04E00000#32 ≤ v
    · by_cases h2 : v ≤ Ideal.ofBits .f32 0x7F7F0000#32
      · exact ⟨h1, h2⟩
      · have c2 : Ideal.cmp .ole v (Ideal.ofBits .f32 0x7F7F0000#32) = 0#1 := by simp [Ideal.cmp, h2]
        rw [c2] at h
        generalize Ideal.cmp .oge v (Ideal.ofBits .f32 0x04E00000#32) = w at h
        exact absurd h (by revert w; decide)
    · have c1 : Ideal.cmp .oge v (Ideal.ofBits .f32 0x04E00000#32) = 0#1 := by simp [Ideal.cmp, h1]
      rw [c1] at h
      generalize Ideal.cmp .ole v (Ideal.ofBits .f32 0x7F7F0000#32) = w at h
      exact absurd h (by revert w; decide)

/-- The precondition on an array of group maxima, element by element. -/
def groupsIn (M : FVec Ideal S2x6144x64 .f32) : IVec S2x6144x64 1 :=
  ori (cmpf .oeq M (broadcastInDim S2x6144x64 ![] bcast_S_S2x6144x64 (constant S_ .f32 0x00000000#32)))
    (andi (cmpf .oge M (broadcastInDim S2x6144x64 ![] bcast_S_S2x6144x64 (constant S_ .f32 0x04E00000#32)))
      (cmpf .ole M (broadcastInDim S2x6144x64 ![] bcast_S_S2x6144x64 (constant S_ .f32 0x7F7F0000#32))))

/-- The precondition on the weight scales, element by element. -/
def scalesIn (s : IVec S8192x64 8) : IVec S8192x64 1 :=
  andi (cmpi .sge (extui 32 s natLt_8_32) (broadcastInDim S8192x64 ![] bcast_S_S8192x64 (constantI S_ 32 1#32)))
    (cmpi .sle (extui 32 s natLt_8_32) (broadcastInDim S8192x64 ![] bcast_S_S8192x64 (constantI S_ 32 254#32)))

/-- One element of the first. -/
theorem groupsIn_apply (M : FVec Ideal S2x6144x64 .f32) (a : Fin 2) (b : Fin 6144) (g : Fin 64) :
    groupsIn M (ix3 a b g) = IntOp.ori (Ideal.cmp .oeq (M (ix3 a b g)) (Ideal.ofBits .f32 0x00000000#32))
      (IntOp.andi (Ideal.cmp .oge (M (ix3 a b g)) (Ideal.ofBits .f32 0x04E00000#32))
        (Ideal.cmp .ole (M (ix3 a b g)) (Ideal.ofBits .f32 0x7F7F0000#32))) := by
  unfold groupsIn ori andi cmpf
  rfl

/-- One element of the second. -/
theorem scalesIn_apply (s : IVec S8192x64 8) (R : Fin 8192) (g : Fin 64) :
    scalesIn s (ix2 R g) = IntOp.andi (IntOp.cmpi .sge (BitVec.setWidth 32 (s (ix2 R g))) 1#32)
      (IntOp.cmpi .sle (BitVec.setWidth 32 (s (ix2 R g))) 254#32) := by
  unfold scalesIn andi cmpi
  rfl

/-- The precondition is the conjunction of the two over all elements. -/
theorem fn_eq (x : FVec Ideal S2x6144x2048 .bf16) (w : FVec Ideal S8192x2048 .fp8e4m3) (s : IVec S8192x64 8)
    (d : FVec Ideal S2x6144x8192 .bf16) : fn (F := Ideal) x w s d =
      andi (Host.reduce IntOp.andi (groupsIn (preMax x)) (constantI S_ 1 1#1) reducesTo_S2x6144x64_S_d0_1_2 h_S_)
        (Host.reduce IntOp.andi (scalesIn s) (constantI S_ 1 1#1) reducesTo_S8192x64_S_d0_1 h_S_) := by
  unfold fn fn_part1 groupsIn scalesIn preMax
  rfl

/-- There is one index of a scalar. -/
instance : Subsingleton S_.Idx := ⟨fun _ _ => funext fun k => k.elim0⟩

/-- A conjunction of scalars that is 1 has both parts 1. -/
theorem andi_split (p q : IVec S_ 1) (h : andi p q = fun _ => 1#1) : p ix0 = 1#1 ∧ q ix0 = 1#1 :=
  IntOp.andi_eq_one.1 (congrFun h ix0)

/-- If the first conjunction holds, every group maximum is in range. -/
theorem groups_of_all (M : FVec Ideal S2x6144x64 .f32)
    (e : Host.reduce IntOp.andi (groupsIn M) (constantI S_ 1 1#1) reducesTo_S2x6144x64_S_d0_1_2 h_S_ ix0 = 1#1)
    (a : Fin 2) (b : Fin 6144) (g : Fin 64) : InRange (M (ix3 a b g)) :=
  inRange_word _ ((groupsIn_apply M a b g).symm.trans (Host.reduce_andi_all _ _ _ _ _ e (ix3 a b g)))

/-- If the second conjunction holds, every weight scale is between 1 and 254. -/
theorem scales_of_all (s : IVec S8192x64 8)
    (e : Host.reduce IntOp.andi (scalesIn s) (constantI S_ 1 1#1) reducesTo_S8192x64_S_d0_1 h_S_ ix0 = 1#1) : ScalesOk s :=
  fun R g => scale_word _ ((scalesIn_apply s R g).symm.trans (Host.reduce_andi_all _ _ _ _ _ e (ix2 R g)))

/-- The precondition: every group of every row is in range, and every weight scale is between 1 and 254. -/
theorem ok_of_pre (x : FVec Ideal S2x6144x2048 .bf16) (w : FVec Ideal S8192x2048 .fp8e4m3) (s : IVec S8192x64 8)
    (d : FVec Ideal S2x6144x8192 .bf16) (h : fn (F := Ideal) x w s d = fun _ => 1#1) : RowsOk (rows x) ∧ ScalesOk s := by
  rw [fn_eq] at h
  obtain ⟨e1, e2⟩ := andi_split _ _ h
  refine ⟨fun R g => ?_, scales_of_all s e2⟩
  have r := groups_of_all _ e1 ⟨R.val / 6144, by omega⟩ ⟨R.val % 6144, by omega⟩ g
  rw [preMax_apply] at r
  have er : (fun k => rows x (ix2 R k)) = fun k => x (ix3 ⟨R.val / 6144, by omega⟩ ⟨R.val % 6144, by omega⟩ k) :=
    funext fun k => rows_apply x R k
  exact er ▸ r

end Cert.Mx
-- ==== Proof.lean ====
/-
  The proof of the claim: the five conjuncts, from the value of the kernel (KernelRun), the value of the
  reference (RefRun) and the meaning of the precondition (Precondition).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_in_range
public import proofs.«01_k».proof.Proof.Precondition
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Under the precondition, from equal arguments, the ideal kernel and the ideal reference end with the same
    three results and with their arguments as they were. -/
theorem algebraic [Cert.Pre_scales_in_range.Facts] : algebraic_KernelIdeal_ReferenceIdeal_pre_scales_in_range := by
  intro m g m' g' hpre hargs
  have hm : Mx.ArgsOk m := fun c => Mx.ok_of_pre _ _ _ _ (hpre c)
  refine ⟨_, _, _, Mx.kernel_values g hm, ?_⟩
  refine θ_run_mono (Rf.reference_values m' g' fun c => ?_) fun r hr c => ?_
  · have e := (hargs c).1
    exact e ▸ (hm c).1
  · obtain ⟨e0, e1, e2, e3⟩ := hargs c
    obtain ⟨h0, h1, h2, hrest⟩ := hr c
    rw [e0, e1, e2, e3] at h0
    rw [e0] at h1 h2
    exact ⟨h0, h1, h2, hrest⟩

/-- The kernel, its ideal form and the reference run to the end on every input, write only their results and
    leave every semaphore at zero; the rewriting between the kernel and its ideal form is the one rule's; and
    the ideal kernel computes what the ideal reference computes wherever the precondition holds. -/
theorem claim : Cert.Claim := ⟨Cert.Kernel.Gen.facts, Cert.KernelIdeal.Gen.facts, Cert.ReferenceIdeal.Gen.facts,
  Cert.Pre_scales_in_range.Gen.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, IdealRules.bf16_pair.statement _ _,
  @algebraic Cert.Pre_scales_in_range.Gen.facts⟩

end Cert.Proof

end
